-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_are_finite [hPre_scores_are_finite : Cert.Pre_scores_are_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_scores_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_are_finite [hPre_scores_are_finite : Cert.Pre_scores_are_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_scores_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_memory_scores_are_finite [hPre_memory_scores_are_finite : Cert.Pre_memory_scores_are_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_memory_scores_are_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).1 = (fun _ => 1#1)
    ∧ (Cert.Pre_memory_scores_are_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_memory_scores_are_finite [hPre_memory_scores_are_finite : Cert.Pre_memory_scores_are_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_memory_scores_are_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).1 = (fun _ => 1#1)
    ∧ (Cert.Pre_memory_scores_are_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_are_finite [hKernelIdeal : Cert.KernelIdeal.Facts] [hPre_scores_are_finite : Cert.Pre_scores_are_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_are_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_are_finite [hReferenceIdeal : Cert.ReferenceIdeal.Facts] [hPre_scores_are_finite : Cert.Pre_scores_are_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_are_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_memory_scores_are_finite [hKernel7Ideal : Cert.Kernel7Ideal.Facts] [hPre_memory_scores_are_finite : Cert.Pre_memory_scores_are_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_memory_scores_are_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_memory_scores_are_finite [hReference7Ideal : Cert.Reference7Ideal.Facts] [hPre_memory_scores_are_finite : Cert.Pre_memory_scores_are_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_memory_scores_are_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal_pre_scores_are_finite [hKernelIdeal : Cert.KernelIdeal.Facts] [hReferenceIdeal : Cert.ReferenceIdeal.Facts] [hPre_scores_are_finite : Cert.Pre_scores_are_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_are_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_memory_scores_are_finite [hKernel7Ideal : Cert.Kernel7Ideal.Facts] [hReference7Ideal : Cert.Reference7Ideal.Facts] [hPre_memory_scores_are_finite : Cert.Pre_memory_scores_are_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_memory_scores_are_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_scores_are_finite : Cert.Pre_scores_are_finite.Facts) (hPre_memory_scores_are_finite : Cert.Pre_memory_scores_are_finite.Facts),
    quiescent_Kernel (hKernel := hKernel)
    ∧ quiescent_KernelIdeal (hKernelIdeal := hKernelIdeal)
    ∧ quiescent_KernelIdeal_pre_scores_are_finite (hKernelIdeal := hKernelIdeal) (hPre_scores_are_finite := hPre_scores_are_finite)
    ∧ quiescent_ReferenceIdeal (hReferenceIdeal := hReferenceIdeal)
    ∧ quiescent_ReferenceIdeal_pre_scores_are_finite (hReferenceIdeal := hReferenceIdeal) (hPre_scores_are_finite := hPre_scores_are_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_memory_scores_are_finite (hKernel7Ideal := hKernel7Ideal) (hPre_memory_scores_are_finite := hPre_memory_scores_are_finite)
    ∧ quiescent_Reference7Ideal (hReference7Ideal := hReference7Ideal)
    ∧ quiescent_Reference7Ideal_pre_memory_scores_are_finite (hReference7Ideal := hReference7Ideal) (hPre_memory_scores_are_finite := hPre_memory_scores_are_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_scores_are_finite (hKernelIdeal := hKernelIdeal) (hReferenceIdeal := hReferenceIdeal) (hPre_scores_are_finite := hPre_scores_are_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_memory_scores_are_finite (hKernel7Ideal := hKernel7Ideal) (hReference7Ideal := hReference7Ideal) (hPre_memory_scores_are_finite := hPre_memory_scores_are_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_memory_scores_are_finite.lean ====
abbrev S16384x2048 : Shape := ⟨2, ![16384, 2048]⟩
abbrev S1024x1024 : Shape := ⟨2, ![1024, 1024]⟩
abbrev S16384x512 : Shape := ⟨2, ![16384, 512]⟩
abbrev S_ : Shape := ⟨0, ![]⟩
abbrev S1024x512 : Shape := ⟨2, ![1024, 512]⟩

class Facts : Prop where
  slices_S16384x2048_S16384x512_0_1536 : S16384x2048.Slices ![0, 1536] S16384x512
  bitsLt_bf16_f32 : FTy.bits .bf16 < FTy.bits .f32
  bcast_S_S16384x512 : S_.BroadcastsInDim S16384x512 (![] : Fin 0 → Fin S16384x512.rank)
  slices_S1024x1024_S1024x512_0_0 : S1024x1024.Slices ![0, 0] S1024x512
  bcast_S_S1024x512 : S_.BroadcastsInDim S1024x512 (![] : Fin 0 → Fin S1024x512.rank)

variable [Facts]

def fn {F : FTy → Type} [FloatOps F] (main_arg0 : FVec F S16384x2048 .bf16) (main_arg1 : FVec F S1024x1024 .bf16) : IVec S16384x512 1 × IVec S1024x512 1 :=
  let main_v0 : FVec F S16384x512 .bf16 := (extractStridedSlice S16384x512 ![0, 1536] · slices_S16384x2048_S16384x512_0_1536) main_arg0
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S1024x512 .bf16 := (extractStridedSlice S1024x512 ![0, 0] · slices_S1024x1024_S1024x512_0_0) main_arg1
  let main_v6 : FVec F S1024x512 .f32 := (extf .f32 · bitsLt_bf16_f32) main_v5
  let main_v7 : FVec F S1024x512 .f32 := Host.absf main_v6
  let main_cst_0 : FVec F S_ .f32 := constant S_ .f32 0x7F800000#32
  let main_v8 : FVec F S1024x512 .f32 := broadcastInDim S1024x512 ![] bcast_S_S1024x512 main_cst_0
  let main_v9 : IVec S1024x512 1 := cmpf .olt main_v7 main_v8
  (main_v4, main_v9)
-- ==== Pre_scores_are_finite.lean ====
abbrev S16384x2048 : Shape := ⟨2, ![16384, 2048]⟩
abbrev S16384x3072 : Shape := ⟨2, ![16384, 3072]⟩
abbrev S24x192 : Shape := ⟨2, ![24, 192]⟩
abbrev S16384x1536 : Shape := ⟨2, ![16384, 1536]⟩
abbrev S_ : Shape := ⟨0, ![]⟩

class Facts : Prop where
  slices_S16384x2048_S16384x1536_0_0 : S16384x2048.Slices ![0, 0] S16384x1536
  bitsLt_bf16_f32 : FTy.bits .bf16 < FTy.bits .f32
  bcast_S_S16384x1536 : S_.BroadcastsInDim S16384x1536 (![] : Fin 0 → Fin S16384x1536.rank)
  slices_S16384x3072_S16384x1536_0_0 : S16384x3072.Slices ![0, 0] S16384x1536
  bcast_S_S24x192 : S_.BroadcastsInDim S24x192 (![] : Fin 0 → Fin S24x192.rank)

variable [Facts]

def fn {F : FTy → Type} [FloatOps F] (main_arg0 : FVec F S16384x2048 .bf16) (main_arg1 : FVec F S16384x3072 .bf16) (main_arg2 : FVec F S24x192 .f32) : IVec S16384x1536 1 × IVec S16384x1536 1 × IVec S24x192 1 :=
  let main_v0 : FVec F S16384x1536 .bf16 := (extractStridedSlice S16384x1536 ![0, 0] · slices_S16384x2048_S16384x1536_0_0) main_arg0
  let main_v1 : FVec F S16384x1536 .f32 := (extf .f32 · bitsLt_bf16_f32) main_v0
  let main_v2 : FVec F S16384x1536 .f32 := Host.absf main_v1
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  let main_v5 : FVec F S16384x1536 .bf16 := (extractStridedSlice S16384x1536 ![0, 0] · slices_S16384x3072_S16384x1536_0_0) main_arg1
  let main_v6 : FVec F S16384x1536 .f32 := (extf .f32 · bitsLt_bf16_f32) main_v5
  let main_v7 : FVec F S16384x1536 .f32 := Host.absf main_v6
  let main_cst_0 : FVec F S_ .f32 := constant S_ .f32 0x7F800000#32
  let main_v8 : FVec F S16384x1536 .f32 := broadcastInDim S16384x1536 ![] bcast_S_S16384x1536 main_cst_0
  let main_v9 : IVec S16384x1536 1 := cmpf .olt main_v7 main_v8
  let main_v10 : FVec F S24x192 .f32 := Host.absf main_arg2
  let main_cst_1 : FVec F S_ .f32 := constant S_ .f32 0x7F800000#32
  let main_v11 : FVec F S24x192 .f32 := broadcastInDim S24x192 ![] bcast_S_S24x192 main_cst_1
  let main_v12 : IVec S24x192 1 := cmpf .olt main_v10 main_v11
  (main_v4, main_v9, main_v12)
-- ==== Kernel.lean ====
abbrev S16384x2048 : Shape := ⟨2, ![16384, 2048]⟩
abbrev S16384x3072 : Shape := ⟨2, ![16384, 3072]⟩
abbrev S24x192 : Shape := ⟨2, ![24, 192]⟩
abbrev S24x1 : Shape := ⟨2, ![24, 1]⟩
abbrev S24x447 : Shape := ⟨2, ![24, 447]⟩
abbrev S24x639 : Shape := ⟨2, ![24, 639]⟩
abbrev S24x576 : Shape := ⟨2, ![24, 576]⟩
abbrev S24x1x576 : Shape := ⟨3, ![24, 1, 576]⟩
abbrev S24x16x576 : Shape := ⟨3, ![24, 16, 576]⟩
abbrev S24x64x576 : Shape := ⟨3, ![24, 64, 576]⟩
abbrev S1536x576 : Shape := ⟨2, ![1536, 576]⟩
abbrev S16384x1536 : Shape := ⟨2, ![16384, 1536]⟩
abbrev S512x128 : Shape := ⟨2, ![512, 128]⟩
abbrev S128x576 : Shape := ⟨2, ![128, 576]⟩
abbrev S1024x128 : Shape := ⟨2, ![1024, 128]⟩
abbrev S64x128 : Shape := ⟨2, ![64, 128]⟩
abbrev S128x128 : Shape := ⟨2, ![128, 128]⟩
abbrev S576x128 : Shape := ⟨2, ![576, 128]⟩
abbrev S128 : Shape := ⟨1, ![128]⟩
abbrev S128x1 : Shape := ⟨2, ![128, 1]⟩

abbrev nBuf : Space → Nat
  | .hbm => 142
  | .vmem => 14
  | .smem => 0
  | _ => 0

abbrev hbmTy0_0 (i : Nat) : BufTy := match i % 128 with
  | 0 => ⟨S16384x2048, .bf16⟩
  | 1 => ⟨S16384x3072, .bf16⟩
  | 2 => ⟨S24x192, .f32⟩
  | 3 => ⟨S24x1, .f32⟩
  | 4 => ⟨S24x447, .f32⟩
  | 5 => ⟨S24x192, .f32⟩
  | 6 => ⟨S24x639, .f32⟩
  | 7 => ⟨S24x576, .f32⟩
  | 8 => ⟨S24x576, .f32⟩
  | 9 => ⟨S24x576, .f32⟩
  | 10 => ⟨S24x576, .f32⟩
  | 11 => ⟨S24x576, .f32⟩
  | 12 => ⟨S24x576, .f32⟩
  | 13 => ⟨S24x576, .f32⟩
  | 14 => ⟨S24x576, .f32⟩
  | 15 => ⟨S24x576, .f32⟩
  | 16 => ⟨S24x576, .f32⟩
  | 17 => ⟨S24x576, .f32⟩
  | 18 => ⟨S24x576, .f32⟩
  | 19 => ⟨S24x576, .f32⟩
  | 20 => ⟨S24x576, .f32⟩
  | 21 => ⟨S24x576, .f32⟩
  | 22 => ⟨S24x576, .f32⟩
  | 23 => ⟨S24x576, .f32⟩
  | 24 => ⟨S24x576, .f32⟩
  | 25 => ⟨S24x576, .f32⟩
  | 26 => ⟨S24x576, .f32⟩
  | 27 => ⟨S24x576, .f32⟩
  | 28 => ⟨S24x576, .f32⟩
  | 29 => ⟨S24x576, .f32⟩
  | 30 => ⟨S24x576, .f32⟩
  | 31 => ⟨S24x576, .f32⟩
  | 32 => ⟨S24x576, .f32⟩
  | 33 => ⟨S24x576, .f32⟩
  | 34 => ⟨S24x576, .f32⟩
  | 35 => ⟨S24x576, .f32⟩
  | 36 => ⟨S24x576, .f32⟩
  | 37 => ⟨S24x576, .f32⟩
  | 38 => ⟨S24x576, .f32⟩
  | 39 => ⟨S24x576, .f32⟩
  | 40 => ⟨S24x576, .f32⟩
  | 41 => ⟨S24x576, .f32⟩
  | 42 => ⟨S24x576, .f32⟩
  | 43 => ⟨S24x576, .f32⟩
  | 44 => ⟨S24x576, .f32⟩
  | 45 => ⟨S24x576, .f32⟩
  | 46 => ⟨S24x576, .f32⟩
  | 47 => ⟨S24x576, .f32⟩
  | 48 => ⟨S24x576, .f32⟩
  | 49 => ⟨S24x576, .f32⟩
  | 50 => ⟨S24x576, .f32⟩
  | 51 => ⟨S24x576, .f32⟩
  | 52 => ⟨S24x576, .f32⟩
  | 53 => ⟨S24x576, .f32⟩
  | 54 => ⟨S24x576, .f32⟩
  | 55 => ⟨S24x576, .f32⟩
  | 56 => ⟨S24x576, .f32⟩
  | 57 => ⟨S24x576, .f32⟩
  | 58 => ⟨S24x576, .f32⟩
  | 59 => ⟨S24x576, .f32⟩
  | 60 => ⟨S24x576, .f32⟩
  | 61 => ⟨S24x576, .f32⟩
  | 62 => ⟨S24x576, .f32⟩
  | 63 => ⟨S24x576, .f32⟩
  | 64 => ⟨S24x576, .f32⟩
  | 65 => ⟨S24x576, .f32⟩
  | 66 => ⟨S24x576, .f32⟩
  | 67 => ⟨S24x576, .f32⟩
  | 68 => ⟨S24x576, .f32⟩
  | 69 => ⟨S24x576, .f32⟩
  | 70 => ⟨S24x576, .f32⟩
  | 71 => ⟨S24x1x576, .f32⟩
  | 72 => ⟨S24x1x576, .f32⟩
  | 73 => ⟨S24x1x576, .f32⟩
  | 74 => ⟨S24x1x576, .f32⟩
  | 75 => ⟨S24x1x576, .f32⟩
  | 76 => ⟨S24x1x576, .f32⟩
  | 77 => ⟨S24x1x576, .f32⟩
  | 78 => ⟨S24x1x576, .f32⟩
  | 79 => ⟨S24x1x576, .f32⟩
  | 80 => ⟨S24x1x576, .f32⟩
  | 81 => ⟨S24x1x576, .f32⟩
  | 82 => ⟨S24x1x576, .f32⟩
  | 83 => ⟨S24x1x576, .f32⟩
  | 84 => ⟨S24x1x576, .f32⟩
  | 85 => ⟨S24x1x576, .f32⟩
  | 86 => ⟨S24x1x576, .f32⟩
  | 87 => ⟨S24x1x576, .f32⟩
  | 88 => ⟨S24x1x576, .f32⟩
  | 89 => ⟨S24x1x576, .f32⟩
  | 90 => ⟨S24x1x576, .f32⟩
  | 91 => ⟨S24x1x576, .f32⟩
  | 92 => ⟨S24x1x576, .f32⟩
  | 93 => ⟨S24x1x576, .f32⟩
  | 94 => ⟨S24x1x576, .f32⟩
  | 95 => ⟨S24x1x576, .f32⟩
  | 96 => ⟨S24x1x576, .f32⟩
  | 97 => ⟨S24x1x576, .f32⟩
  | 98 => ⟨S24x1x576, .f32⟩
  | 99 => ⟨S24x1x576, .f32⟩
  | 100 => ⟨S24x1x576, .f32⟩
  | 101 => ⟨S24x1x576, .f32⟩
  | 102 => ⟨S24x1x576, .f32⟩
  | 103 => ⟨S24x1x576, .f32⟩
  | 104 => ⟨S24x1x576, .f32⟩
  | 105 => ⟨S24x1x576, .f32⟩
  | 106 => ⟨S24x1x576, .f32⟩
  | 107 => ⟨S24x1x576, .f32⟩
  | 108 => ⟨S24x1x576, .f32⟩
  | 109 => ⟨S24x1x576, .f32⟩
  | 110 => ⟨S24x1x576, .f32⟩
  | 111 => ⟨S24x1x576, .f32⟩
  | 112 => ⟨S24x1x576, .f32⟩
  | 113 => ⟨S24x1x576, .f32⟩
  | 114 => ⟨S24x1x576, .f32⟩
  | 115 => ⟨S24x1x576, .f32⟩
  | 116 => ⟨S24x1x576, .f32⟩
  | 117 => ⟨S24x1x576, .f32⟩
  | 118 => ⟨S24x1x576, .f32⟩
  | 119 => ⟨S24x1x576, .f32⟩
  | 120 => ⟨S24x1x576, .f32⟩
  | 121 => ⟨S24x1x576, .f32⟩
  | 122 => ⟨S24x1x576, .f32⟩
  | 123 => ⟨S24x1x576, .f32⟩
  | 124 => ⟨S24x1x576, .f32⟩
  | 125 => ⟨S24x1x576, .f32⟩
  | 126 => ⟨S24x1x576, .f32⟩
  | 127 => ⟨S24x1x576, .f32⟩
  | _ => ⟨S16384x2048, .bf16⟩

abbrev hbmTy0_1 (i : Nat) : BufTy := match i % 128 with
  | 0 => ⟨S24x1x576, .f32⟩
  | 1 => ⟨S24x1x576, .f32⟩
  | 2 => ⟨S24x1x576, .f32⟩
  | 3 => ⟨S24x1x576, .f32⟩
  | 4 => ⟨S24x1x576, .f32⟩
  | 5 => ⟨S24x1x576, .f32⟩
  | 6 => ⟨S24x1x576, .f32⟩
  | 7 => ⟨S24x16x576, .f32⟩
  | 8 => ⟨S24x16x576, .f32⟩
  | 9 => ⟨S24x16x576, .f32⟩
  | 10 => ⟨S24x16x576, .f32⟩
  | 11 => ⟨S24x64x576, .f32⟩
  | 12 => ⟨S1536x576, .f32⟩
  | 13 => ⟨S16384x1536, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S128x576, .f32⟩
  | .local _ .vmem, ⟨11, _⟩ => ⟨S128x576, .f32⟩
  | .local _ .vmem, ⟨12, _⟩ => ⟨S512x128, .bf16⟩
  | .local _ .vmem, ⟨13, _⟩ => ⟨S512x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 12, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  let v4 : BitVec 32 := Scalar.addi c0_i32_0 arg1
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c12_i32 : BitVec 32 := 12#32
  let v4 : BitVec 32 := Scalar.addi c12_i32 arg1
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16384x2048 : Shape := ⟨2, ![16384, 2048]⟩
abbrev S16384x3072 : Shape := ⟨2, ![16384, 3072]⟩
abbrev S24x192 : Shape := ⟨2, ![24, 192]⟩
abbrev S16384x1536 : Shape := ⟨2, ![16384, 1536]⟩
abbrev S4x4096x24x64 : Shape := ⟨4, ![4, 4096, 24, 64]⟩
abbrev S4x64x64x24x64 : Shape := ⟨5, ![4, 64, 64, 24, 64]⟩
abbrev S_ : Shape := ⟨0, ![]⟩
abbrev S4x4608x24x64 : Shape := ⟨4, ![4, 4608, 24, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S24x64x576 : Shape := ⟨3, ![24, 64, 576]⟩
abbrev S4x64x576x24x64 : Shape := ⟨5, ![4, 64, 576, 24, 64]⟩
abbrev S4x64x24x64x576 : Shape := ⟨5, ![4, 64, 24, 64, 576]⟩
abbrev S1x1x24x64x576 : Shape := ⟨5, ![1, 1, 24, 64, 576]⟩
abbrev S1x64x1x1x576 : Shape := ⟨5, ![1, 64, 1, 1, 576]⟩
abbrev S4x64x24x64 : Shape := ⟨4, ![4, 64, 24, 64]⟩
abbrev S4x64x24x64x1 : Shape := ⟨5, ![4, 64, 24, 64, 1]⟩
abbrev S4x64x24x64x64 : Shape := ⟨5, ![4, 64, 24, 64, 64]⟩

abbrev nBuf : Space → Nat
  | .hbm => 111
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x3072, .bf16⟩
  | .hbm, ⟨2, _⟩ => ⟨S24x192, .f32⟩
  | .hbm, ⟨3, _⟩ => ⟨S16384x1536, .bf16⟩
  | .hbm, ⟨4, _⟩ => ⟨S16384x1536, .f32⟩
  | .hbm, ⟨5, _⟩ => ⟨S4x4096x24x64, .f32⟩
  | .hbm, ⟨6, _⟩ => ⟨S16384x1536, .bf16⟩
  | .hbm, ⟨7, _⟩ => ⟨S16384x1536, .f32⟩
  | .hbm, ⟨8, _⟩ => ⟨S4x4096x24x64, .f32⟩
  | .hbm, ⟨9, _⟩ => ⟨S16384x1536, .bf16⟩
  | .hbm, ⟨10, _⟩ => ⟨S16384x1536, .f32⟩
  | .hbm, ⟨11, _⟩ => ⟨S4x4096x24x64, .f32⟩
  | .hbm, ⟨12, _⟩ => ⟨S4x64x64x24x64, .f32⟩
  | .hbm, ⟨13, _⟩ => ⟨S_, .i32⟩
  | .hbm, ⟨14, _⟩ => ⟨S_, .f32⟩
  | .hbm, ⟨15, _⟩ => ⟨S4x4608x24x64, .f32⟩
  | .hbm, ⟨16, _⟩ => ⟨S_, .i32⟩
  | .hbm, ⟨17, _⟩ => ⟨S_, .f32⟩
  | .hbm, ⟨18, _⟩ => ⟨S4x4608x24x64, .f32⟩
  | .hbm, ⟨19, _⟩ => ⟨S64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S576, .i32⟩
  | .hbm, ⟨25, _⟩ => ⟨S1x576, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i32⟩
  | .hbm, ⟨40, _⟩ => ⟨S_, .i32⟩
  | .hbm, ⟨41, _⟩ => ⟨S64x576, .i32⟩
  | .hbm, ⟨42, _⟩ => ⟨S64x576, .i1⟩
  | .hbm, ⟨43, _⟩ => ⟨S_, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S64x576x1, .i32⟩
  | .hbm, ⟨48, _⟩ => ⟨S24x64x576, .f32⟩
  | .hbm, ⟨49, _⟩ => ⟨S64, .i32⟩
  | .hbm, ⟨50, _⟩ => ⟨S64x1, .i32⟩
  | .hbm, ⟨51, _⟩ => ⟨S_, .i32⟩
  | .hbm, ⟨52, _⟩ => ⟨S64x1, .i32⟩
  | .hbm, ⟨53, _⟩ => ⟨S64x1, .i32⟩
  | .hbm, ⟨54, _⟩ => ⟨S576, .i32⟩
  | .hbm, ⟨55, _⟩ => ⟨S1x576, .i32⟩
  | .hbm, ⟨56, _⟩ => ⟨S64x576, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i1⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S64x576, .i32⟩
  | .hbm, ⟨66, _⟩ => ⟨S64x576x1, .i32⟩
  | .hbm, ⟨67, _⟩ => ⟨S4x64x576x24x64, .f32⟩
  | .hbm, ⟨68, _⟩ => ⟨S_, .i32⟩
  | .hbm, ⟨69, _⟩ => ⟨S64x576, .i32⟩
  | .hbm, ⟨70, _⟩ => ⟨S64x576, .i1⟩
  | .hbm, ⟨71, _⟩ => ⟨S_, .i32⟩
  | .hbm, ⟨72, _⟩ => ⟨S64x576, .i32⟩
  | .hbm, ⟨73, _⟩ => ⟨S64x576, .i32⟩
  | .hbm, ⟨74, _⟩ => ⟨S64x576, .i32⟩
  | .hbm, ⟨75, _⟩ => ⟨S64x576x1, .i32⟩
  | .hbm, ⟨76, _⟩ => ⟨S4x64x576x24x64, .f32⟩
  | .hbm, ⟨77, _⟩ => ⟨S4x64x24x64x576, .f32⟩
  | .hbm, ⟨78, _⟩ => ⟨S_, .f32⟩
  | .hbm, ⟨79, _⟩ => ⟨S4x64x24x64x576, .f32⟩
  | .hbm, ⟨80, _⟩ => ⟨S4x64x24x64x576, .f32⟩
  | .hbm, ⟨81, _⟩ => ⟨S1x1x24x64x576, .f32⟩
  | .hbm, ⟨82, _⟩ => ⟨S4x64x24x64x576, .f32⟩
  | .hbm, ⟨83, _⟩ => ⟨S4x64x24x64x576, .f32⟩
  | .hbm, ⟨84, _⟩ => ⟨S_, .i32⟩
  | .hbm, ⟨85, _⟩ => ⟨S64x576, .i32⟩
  | .hbm, ⟨86, _⟩ => ⟨S64x576, .i1⟩
  | .hbm, ⟨87, _⟩ => ⟨S1x64x1x1x576, .i1⟩
  | .hbm, ⟨88, _⟩ => ⟨S_, .f32⟩
  | .hbm, ⟨89, _⟩ => ⟨S_, .f32⟩
  | .hbm, ⟨90, _⟩ => ⟨S4x64x24x64x576, .i1⟩
  | .hbm, ⟨91, _⟩ => ⟨S4x64x24x64x576, .f32⟩
  | .hbm, ⟨92, _⟩ => ⟨S4x64x24x64x576, .f32⟩
  | .hbm, ⟨93, _⟩ => ⟨S_, .f32⟩
  | .hbm, ⟨94, _⟩ => ⟨S4x64x24x64, .f32⟩
  | .hbm, ⟨95, _⟩ => ⟨S_, .f32⟩
  | .hbm, ⟨96, _⟩ => ⟨S4x64x24x64, .f32⟩
  | .hbm, ⟨97, _⟩ => ⟨S4x64x24x64, .f32⟩
  | .hbm, ⟨98, _⟩ => ⟨S4x64x24x64x1, .f32⟩
  | .hbm, ⟨99, _⟩ => ⟨S4x64x24x64x576, .f32⟩
  | .hbm, ⟨100, _⟩ => ⟨S4x64x24x64x576, .f32⟩
  | .hbm, ⟨101, _⟩ => ⟨S4x64x24x64x576, .f32⟩
  | .hbm, ⟨102, _⟩ => ⟨S_, .f32⟩
  | .hbm, ⟨103, _⟩ => ⟨S4x64x24x64, .f32⟩
  | .hbm, ⟨104, _⟩ => ⟨S4x64x24x64x1, .f32⟩
  | .hbm, ⟨105, _⟩ => ⟨S4x64x24x64x576, .f32⟩
  | .hbm, ⟨106, _⟩ => ⟨S4x64x24x64x576, .f32⟩
  | .hbm, ⟨107, _⟩ => ⟨S4x64x24x64x64, .f32⟩
  | .hbm, ⟨108, _⟩ => ⟨S4x64x64x24x64, .f32⟩
  | .hbm, ⟨109, _⟩ => ⟨S16384x1536, .f32⟩
  | .hbm, ⟨110, _⟩ => ⟨S16384x1536, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x3072 : Shape := ⟨2, ![2048, 3072]⟩
abbrev S1x2048 : Shape := ⟨2, ![1, 2048]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S1x2048, .f32⟩
  | .hbm, ⟨5, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S2048 : Shape := ⟨1, ![2048]⟩
abbrev S2048x3072 : Shape := ⟨2, ![2048, 3072]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x3072 : Shape := ⟨2, ![16384, 3072]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3072, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x3072, .f32⟩
  | .hbm, ⟨20, _⟩ => ⟨S16384x3072, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S16384x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16384x2048 : Shape := ⟨2, ![16384, 2048]⟩
abbrev S16384x1536 : Shape := ⟨2, ![16384, 1536]⟩
abbrev S16384x512 : Shape := ⟨2, ![16384, 512]⟩
abbrev S2048x2048 : Shape := ⟨2, ![2048, 2048]⟩
abbrev S1536x2048 : Shape := ⟨2, ![1536, 2048]⟩
abbrev S512x2048 : Shape := ⟨2, ![512, 2048]⟩
abbrev S512x1536 : Shape := ⟨2, ![512, 1536]⟩
abbrev S512x512 : Shape := ⟨2, ![512, 512]⟩
abbrev S1536x1024 : Shape := ⟨2, ![1536, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x1536, .bf16⟩
  | .hbm, ⟨2, _⟩ => ⟨S16384x512, .bf16⟩
  | .hbm, ⟨3, _⟩ => ⟨S2048x2048, .f32⟩
  | .hbm, ⟨4, _⟩ => ⟨S2048x2048, .bf16⟩
  | .hbm, ⟨5, _⟩ => ⟨S1536x2048, .bf16⟩
  | .hbm, ⟨6, _⟩ => ⟨S512x2048, .bf16⟩
  | .hbm, ⟨7, _⟩ => ⟨S16384x2048, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1536x1024, .bf16⟩
  | .local _ .vmem, ⟨5, _⟩ => ⟨S1536x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x2048 : Shape := ⟨2, ![16384, 2048]⟩
abbrev S16384x1536 : Shape := ⟨2, ![16384, 1536]⟩
abbrev S16384x512 : Shape := ⟨2, ![16384, 512]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1536, .bf16⟩
  | .hbm, ⟨2, _⟩ => ⟨S16384x512, .bf16⟩
  | .hbm, ⟨3, _⟩ => ⟨S2048x2048, .f32⟩
  | .hbm, ⟨4, _⟩ => ⟨S16384x1536, .f32⟩
  | .hbm, ⟨5, _⟩ => ⟨S16384x512, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S16384x2048 : Shape := ⟨2, ![16384, 2048]⟩
abbrev S6x2048 : Shape := ⟨2, ![6, 2048]⟩
abbrev S2048x5120 : Shape := ⟨2, ![2048, 5120]⟩
abbrev S10 : Shape := ⟨1, ![10]⟩
abbrev S_ : Shape := ⟨0, ![]⟩
abbrev S1x2048 : Shape := ⟨2, ![1, 2048]⟩
abbrev S7x2048 : Shape := ⟨2, ![7, 2048]⟩
abbrev S7x1x2048 : Shape := ⟨3, ![7, 1, 2048]⟩
abbrev S16384x5120 : Shape := ⟨2, ![16384, 5120]⟩
abbrev S1024x2048 : Shape := ⟨2, ![1024, 2048]⟩
abbrev S8x2048 : Shape := ⟨2, ![8, 2048]⟩
abbrev S1x1x2048 : Shape := ⟨3, ![1, 1, 2048]⟩
abbrev S1 : Shape := ⟨1, ![1]⟩
abbrev S2048x512 : Shape := ⟨2, ![2048, 512]⟩
abbrev S1024x512 : Shape := ⟨2, ![1024, 512]⟩

abbrev nBuf : Space → Nat
  | .hbm => 9
  | .vmem => 12
  | .smem => 1
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S2048x5120, .f32⟩
  | .hbm, ⟨3, _⟩ => ⟨S_, .f32⟩
  | .hbm, ⟨4, _⟩ => ⟨S1x2048, .f32⟩
  | .hbm, ⟨5, _⟩ => ⟨S7x2048, .f32⟩
  | .hbm, ⟨6, _⟩ => ⟨S2048x5120, .bf16⟩
  | .hbm, ⟨7, _⟩ => ⟨S7x1x2048, .f32⟩
  | .hbm, ⟨8, _⟩ => ⟨S16384x5120, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | .local _ .vmem, ⟨11, _⟩ => ⟨S1024x2048, .f32⟩
  | .local _ .smem, ⟨0, _⟩ => ⟨S10, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 10], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v6 : BitVec 32 := Scalar.subi arg1 c1_i32
  let c0_i32_2 : BitVec 32 := 0#32
  let v7 : BitVec 32 := Scalar.maxsi v6 c0_i32_2
  let v8 : Index := Scalar.indexCast v7
  ![v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x2048 : Shape := ⟨2, ![16384, 2048]⟩
abbrev S6x2048 : Shape := ⟨2, ![6, 2048]⟩
abbrev S2048x5120 : Shape := ⟨2, ![2048, 5120]⟩
abbrev S4x4096x2048 : Shape := ⟨3, ![4, 4096, 2048]⟩
abbrev S4x4095x2048 : Shape := ⟨3, ![4, 4095, 2048]⟩
abbrev S_ : Shape := ⟨0, ![]⟩
abbrev S1x2048 : Shape := ⟨2, ![1, 2048]⟩
abbrev S2048 : Shape := ⟨1, ![2048]⟩
abbrev S1x1x2048 : Shape := ⟨3, ![1, 1, 2048]⟩
abbrev S2048x1536 : Shape := ⟨2, ![2048, 1536]⟩
abbrev S4x4096x1536 : Shape := ⟨3, ![4, 4096, 1536]⟩
abbrev S2048x512 : Shape := ⟨2, ![2048, 512]⟩
abbrev S4x4096x512 : Shape := ⟨3, ![4, 4096, 512]⟩
abbrev S4x4096x5120 : Shape := ⟨3, ![4, 4096, 5120]⟩
abbrev S16384x5120 : Shape := ⟨2, ![16384, 5120]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S2048x5120, .f32⟩
  | .hbm, ⟨3, _⟩ => ⟨S4x4096x2048, .f32⟩
  | .hbm, ⟨4, _⟩ => ⟨S4x4095x2048, .f32⟩
  | .hbm, ⟨5, _⟩ => ⟨S_, .i32⟩
  | .hbm, ⟨6, _⟩ => ⟨S_, .f32⟩
  | .hbm, ⟨7, _⟩ => ⟨S4x4096x2048, .f32⟩
  | .hbm, ⟨8, _⟩ => ⟨S4x4096x2048, .f32⟩
  | .hbm, ⟨9, _⟩ => ⟨S1x2048, .f32⟩
  | .hbm, ⟨10, _⟩ => ⟨S2048, .f32⟩
  | .hbm, ⟨11, _⟩ => ⟨S1x1x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S2048x1536, .f32⟩
  | .hbm, ⟨28, _⟩ => ⟨S4x4096x1536, .f32⟩
  | .hbm, ⟨29, _⟩ => ⟨S2048x1536, .f32⟩
  | .hbm, ⟨30, _⟩ => ⟨S4x4096x1536, .f32⟩
  | .hbm, ⟨31, _⟩ => ⟨S2048x1536, .f32⟩
  | .hbm, ⟨32, _⟩ => ⟨S4x4096x1536, .f32⟩
  | .hbm, ⟨33, _⟩ => ⟨S2048x512, .f32⟩
  | .hbm, ⟨34, _⟩ => ⟨S4x4096x512, .f32⟩
  | .hbm, ⟨35, _⟩ => ⟨S4x4096x5120, .f32⟩
  | .hbm, ⟨36, _⟩ => ⟨S16384x5120, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Kernel7.lean ====
abbrev S16384x2048 : Shape := ⟨2, ![16384, 2048]⟩
abbrev S1024x1024 : Shape := ⟨2, ![1024, 1024]⟩
abbrev S16384x512 : Shape := ⟨2, ![16384, 512]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1024x1024, .bf16⟩
  | .hbm, ⟨2, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S256x1024, .bf16⟩
  | .local _ .vmem, ⟨4, _⟩ => ⟨S512x512, .bf16⟩
  | .local _ .vmem, ⟨5, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x2048 : Shape := ⟨2, ![16384, 2048]⟩
abbrev S1024x1024 : Shape := ⟨2, ![1024, 1024]⟩
abbrev S16384x512 : Shape := ⟨2, ![16384, 512]⟩
abbrev S4x4096x4x128 : Shape := ⟨4, ![4, 4096, 4, 128]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1024x1024, .bf16⟩
  | .hbm, ⟨2, _⟩ => ⟨S16384x512, .bf16⟩
  | .hbm, ⟨3, _⟩ => ⟨S16384x512, .f32⟩
  | .hbm, ⟨4, _⟩ => ⟨S4x4096x4x128, .f32⟩
  | .hbm, ⟨5, _⟩ => ⟨S1024x1024, .f32⟩
  | .hbm, ⟨6, _⟩ => ⟨S4x256x1024, .f32⟩
  | .hbm, ⟨7, _⟩ => ⟨S4x256x512, .f32⟩
  | .hbm, ⟨8, _⟩ => ⟨S4x256x4x128, .f32⟩
  | .hbm, ⟨9, _⟩ => ⟨S4x256x512, .f32⟩
  | .hbm, ⟨10, _⟩ => ⟨S4x256x4x128, .f32⟩
  | .hbm, ⟨11, _⟩ => ⟨S4x4x4096x256, .f32⟩
  | .hbm, ⟨12, _⟩ => ⟨S_, .f32⟩
  | .hbm, ⟨13, _⟩ => ⟨S4x4x4096x256, .f32⟩
  | .hbm, ⟨14, _⟩ => ⟨S4x4x4096x256, .f32⟩
  | .hbm, ⟨15, _⟩ => ⟨S_, .f32⟩
  | .hbm, ⟨16, _⟩ => ⟨S4x4x4096, .f32⟩
  | .hbm, ⟨17, _⟩ => ⟨S_, .f32⟩
  | .hbm, ⟨18, _⟩ => ⟨S4x4x4096, .f32⟩
  | .hbm, ⟨19, _⟩ => ⟨S4x4x4096, .f32⟩
  | .hbm, ⟨20, _⟩ => ⟨S4x4x4096x1, .f32⟩
  | .hbm, ⟨21, _⟩ => ⟨S4x4x4096x256, .f32⟩
  | .hbm, ⟨22, _⟩ => ⟨S4x4x4096x256, .f32⟩
  | .hbm, ⟨23, _⟩ => ⟨S4x4x4096x256, .f32⟩
  | .hbm, ⟨24, _⟩ => ⟨S_, .f32⟩
  | .hbm, ⟨25, _⟩ => ⟨S4x4x4096, .f32⟩
  | .hbm, ⟨26, _⟩ => ⟨S4x4x4096x1, .f32⟩
  | .hbm, ⟨27, _⟩ => ⟨S4x4x4096x256, .f32⟩
  | .hbm, ⟨28, _⟩ => ⟨S4x4x4096x256, .f32⟩
  | .hbm, ⟨29, _⟩ => ⟨S4x4x128x4096, .f32⟩
  | .hbm, ⟨30, _⟩ => ⟨S4x4096x4x128, .f32⟩
  | .hbm, ⟨31, _⟩ => ⟨S16384x512, .f32⟩
  | .hbm, ⟨32, _⟩ => ⟨S16384x512, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel8.lean ====
abbrev S1024x2048 : Shape := ⟨2, ![1024, 2048]⟩
abbrev S2048 : Shape := ⟨1, ![2048]⟩
abbrev S2048x1024 : Shape := ⟨2, ![2048, 1024]⟩
abbrev S1x2048 : Shape := ⟨2, ![1, 2048]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S1x2048, .f32⟩
  | .hbm, ⟨5, _⟩ => ⟨S1024x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S1024x2048 : Shape := ⟨2, ![1024, 2048]⟩
abbrev S2048 : Shape := ⟨1, ![2048]⟩
abbrev S2048x1024 : Shape := ⟨2, ![2048, 1024]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x1024 : Shape := ⟨2, ![1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1024x1024, .f32⟩
  | .hbm, ⟨20, _⟩ => ⟨S1024x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel9.lean ====
abbrev S16384x512 : Shape := ⟨2, ![16384, 512]⟩
abbrev S96x1536 : Shape := ⟨2, ![96, 1536]⟩
abbrev S256x1536 : Shape := ⟨2, ![256, 1536]⟩
abbrev S1536 : Shape := ⟨1, ![1536]⟩
abbrev S_ : Shape := ⟨0, ![]⟩
abbrev S128x1536 : Shape := ⟨2, ![128, 1536]⟩
abbrev S1x1536 : Shape := ⟨2, ![1, 1536]⟩
abbrev S16384x1536 : Shape := ⟨2, ![16384, 1536]⟩
abbrev S256x512 : Shape := ⟨2, ![256, 512]⟩
abbrev S256x128 : Shape := ⟨2, ![256, 128]⟩
abbrev S256x256 : Shape := ⟨2, ![256, 256]⟩

abbrev nBuf : Space → Nat
  | .hbm => 20
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S96x1536, .f32⟩
  | .hbm, ⟨2, _⟩ => ⟨S96x1536, .f32⟩
  | .hbm, ⟨3, _⟩ => ⟨S256x1536, .f32⟩
  | .hbm, ⟨4, _⟩ => ⟨S1536, .f32⟩
  | .hbm, ⟨5, _⟩ => ⟨S1536, .f32⟩
  | .hbm, ⟨6, _⟩ => ⟨S_, .i32⟩
  | .hbm, ⟨7, _⟩ => ⟨S_, .f32⟩
  | .hbm, ⟨8, _⟩ => ⟨S128x1536, .f32⟩
  | .hbm, ⟨9, _⟩ => ⟨S128x1536, .bf16⟩
  | .hbm, ⟨10, _⟩ => ⟨S_, .i32⟩
  | .hbm, ⟨11, _⟩ => ⟨S_, .f32⟩
  | .hbm, ⟨12, _⟩ => ⟨S128x1536, .f32⟩
  | .hbm, ⟨13, _⟩ => ⟨S128x1536, .bf16⟩
  | .hbm, ⟨14, _⟩ => ⟨S256x1536, .bf16⟩
  | .hbm, ⟨15, _⟩ => ⟨S1x1536, .f32⟩
  | .hbm, ⟨16, _⟩ => ⟨S1x1536, .f32⟩
  | .hbm, ⟨17, _⟩ => ⟨S16384x1536, .f32⟩
  | .hbm, ⟨18, _⟩ => ⟨S16384x1536, .f32⟩
  | .hbm, ⟨19, _⟩ => ⟨S16384x1536, .f32⟩
  | .local _ .vmem, ⟨0, _⟩ => ⟨S256x512, .f32⟩
  | .local _ .vmem, ⟨1, _⟩ => ⟨S256x512, .f32⟩
  | .local _ .vmem, ⟨2, _⟩ => ⟨S128x1536, .bf16⟩
  | .local _ .vmem, ⟨3, _⟩ => ⟨S128x1536, .bf16⟩
  | .local _ .vmem, ⟨4, _⟩ => ⟨S256x1536, .bf16⟩
  | .local _ .vmem, ⟨5, _⟩ => ⟨S1x1536, .f32⟩
  | .local _ .vmem, ⟨6, _⟩ => ⟨S1x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S16384x512 : Shape := ⟨2, ![16384, 512]⟩
abbrev S96x1536 : Shape := ⟨2, ![96, 1536]⟩
abbrev S256x1536 : Shape := ⟨2, ![256, 1536]⟩
abbrev S1536 : Shape := ⟨1, ![1536]⟩
abbrev S16384x96 : Shape := ⟨2, ![16384, 96]⟩
abbrev S16384x256 : Shape := ⟨2, ![16384, 256]⟩
abbrev S16384x1536 : Shape := ⟨2, ![16384, 1536]⟩
abbrev S1x1536 : Shape := ⟨2, ![1, 1536]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S96x1536, .f32⟩
  | .hbm, ⟨2, _⟩ => ⟨S96x1536, .f32⟩
  | .hbm, ⟨3, _⟩ => ⟨S256x1536, .f32⟩
  | .hbm, ⟨4, _⟩ => ⟨S1536, .f32⟩
  | .hbm, ⟨5, _⟩ => ⟨S1536, .f32⟩
  | .hbm, ⟨6, _⟩ => ⟨S16384x96, .f32⟩
  | .hbm, ⟨7, _⟩ => ⟨S16384x96, .f32⟩
  | .hbm, ⟨8, _⟩ => ⟨S16384x256, .f32⟩
  | .hbm, ⟨9, _⟩ => ⟨S16384x96, .f32⟩
  | .hbm, ⟨10, _⟩ => ⟨S16384x1536, .f32⟩
  | .hbm, ⟨11, _⟩ => ⟨S1x1536, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S_, .f32⟩
  | .hbm, ⟨16, _⟩ => ⟨S16384x1536, .f32⟩
  | .hbm, ⟨17, _⟩ => ⟨S16384x1536, .f32⟩
  | .hbm, ⟨18, _⟩ => ⟨S16384x1536, .f32⟩
  | .hbm, ⟨19, _⟩ => ⟨S16384x1536, .f32⟩
  | .hbm, ⟨20, _⟩ => ⟨S16384x1536, .i1⟩
  | .hbm, ⟨21, _⟩ => ⟨S16384x1536, .f32⟩
  | .hbm, ⟨22, _⟩ => ⟨S16384x1536, .f32⟩
  | .hbm, ⟨23, _⟩ => ⟨S16384x1536, .f32⟩
  | .hbm, ⟨24, _⟩ => ⟨S16384x1536, .f32⟩
  | .hbm, ⟨25, _⟩ => ⟨S16384x1536, .f32⟩
  | .hbm, ⟨26, _⟩ => ⟨S16384x1536, .f32⟩
  | .hbm, ⟨27, _⟩ => ⟨S16384x1536, .f32⟩
  | .hbm, ⟨28, _⟩ => ⟨S16384x1536, .f32⟩
  | .hbm, ⟨29, _⟩ => ⟨S16384x1536, .f32⟩
  | .hbm, ⟨30, _⟩ => ⟨S_, .f32⟩
  | .hbm, ⟨31, _⟩ => ⟨S16384x1536, .f32⟩
  | .hbm, ⟨32, _⟩ => ⟨S16384x1536, .f32⟩
  | .hbm, ⟨33, _⟩ => ⟨S16384x1536, .f32⟩
  | .hbm, ⟨34, _⟩ => ⟨S1x1536, .f32⟩
  | .hbm, ⟨35, _⟩ => ⟨S16384x1536, .f32⟩
  | .hbm, ⟨36, _⟩ => ⟨S16384x1536, .f32⟩
  | .hbm, ⟨37, _⟩ => ⟨S16384x1536, .f32⟩
  | .hbm, ⟨38, _⟩ => ⟨S16384x1536, .f32⟩
  | .hbm, ⟨39, _⟩ => ⟨S_, .f32⟩
  | .hbm, ⟨40, _⟩ => ⟨S16384x1536, .f32⟩
  | .hbm, ⟨41, _⟩ => ⟨S16384x1536, .f32⟩
  | .hbm, ⟨42, _⟩ => ⟨S_, .f32⟩
  | .hbm, ⟨43, _⟩ => ⟨S16384x1536, .f32⟩
  | .hbm, ⟨44, _⟩ => ⟨S16384x1536, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S16384x1536, .f32⟩
  | .hbm, ⟨54, _⟩ => ⟨S16384x1536, .f32⟩
  | .hbm, ⟨55, _⟩ => ⟨S16384x1536, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Kernel10.lean ====
abbrev S16384x2048 : Shape := ⟨2, ![16384, 2048]⟩
abbrev S6x2048 : Shape := ⟨2, ![6, 2048]⟩
abbrev S2048x96 : Shape := ⟨2, ![2048, 96]⟩
abbrev S2048x256 : Shape := ⟨2, ![2048, 256]⟩
abbrev S4 : Shape := ⟨1, ![4]⟩
abbrev S_ : Shape := ⟨0, ![]⟩
abbrev S1x2048 : Shape := ⟨2, ![1, 2048]⟩
abbrev S7x2048 : Shape := ⟨2, ![7, 2048]⟩
abbrev S2048x128 : Shape := ⟨2, ![2048, 128]⟩
abbrev S2048x512 : Shape := ⟨2, ![2048, 512]⟩
abbrev S7x1x2048 : Shape := ⟨3, ![7, 1, 2048]⟩
abbrev S16384x512 : Shape := ⟨2, ![16384, 512]⟩
abbrev S1024x2048 : Shape := ⟨2, ![1024, 2048]⟩
abbrev S8x2048 : Shape := ⟨2, ![8, 2048]⟩
abbrev S1x1x2048 : Shape := ⟨3, ![1, 1, 2048]⟩
abbrev S1 : Shape := ⟨1, ![1]⟩
abbrev S1024x128 : Shape := ⟨2, ![1024, 128]⟩

abbrev nBuf : Space → Nat
  | .hbm => 18
  | .vmem => 12
  | .smem => 1
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S2048x96, .f32⟩
  | .hbm, ⟨3, _⟩ => ⟨S2048x96, .f32⟩
  | .hbm, ⟨4, _⟩ => ⟨S2048x256, .f32⟩
  | .hbm, ⟨5, _⟩ => ⟨S_, .f32⟩
  | .hbm, ⟨6, _⟩ => ⟨S1x2048, .f32⟩
  | .hbm, ⟨7, _⟩ => ⟨S7x2048, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x512, .f32⟩
  | .hbm, ⟨15, _⟩ => ⟨S2048x512, .bf16⟩
  | .hbm, ⟨16, _⟩ => ⟨S7x1x2048, .f32⟩
  | .hbm, ⟨17, _⟩ => ⟨S16384x512, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x128, .bf16⟩
  | .local _ .vmem, ⟨7, _⟩ => ⟨S2048x128, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x2048, .f32⟩
  | .local _ .smem, ⟨0, _⟩ => ⟨S4, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_v2 : Ref sig .tc := ⟨.hbm, 10, rfl⟩
abbrev main_c_1 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v6 : BitVec 32 := Scalar.subi arg1 c1_i32
  let c0_i32_2 : BitVec 32 := 0#32
  let v7 : BitVec 32 := Scalar.maxsi v6 c0_i32_2
  let v8 : Index := Scalar.indexCast v7
  ![v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S16384x2048 : Shape := ⟨2, ![16384, 2048]⟩
abbrev S6x2048 : Shape := ⟨2, ![6, 2048]⟩
abbrev S2048x96 : Shape := ⟨2, ![2048, 96]⟩
abbrev S2048x256 : Shape := ⟨2, ![2048, 256]⟩
abbrev S4x4096x2048 : Shape := ⟨3, ![4, 4096, 2048]⟩
abbrev S4x4095x2048 : Shape := ⟨3, ![4, 4095, 2048]⟩
abbrev S_ : Shape := ⟨0, ![]⟩
abbrev S1x2048 : Shape := ⟨2, ![1, 2048]⟩
abbrev S2048 : Shape := ⟨1, ![2048]⟩
abbrev S1x1x2048 : Shape := ⟨3, ![1, 1, 2048]⟩
abbrev S4x4096x32 : Shape := ⟨3, ![4, 4096, 32]⟩
abbrev S4x4096x96 : Shape := ⟨3, ![4, 4096, 96]⟩
abbrev S4x4096x256 : Shape := ⟨3, ![4, 4096, 256]⟩
abbrev S4x4096x512 : Shape := ⟨3, ![4, 4096, 512]⟩
abbrev S16384x512 : Shape := ⟨2, ![16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S2048x96, .f32⟩
  | .hbm, ⟨3, _⟩ => ⟨S2048x96, .f32⟩
  | .hbm, ⟨4, _⟩ => ⟨S2048x256, .f32⟩
  | .hbm, ⟨5, _⟩ => ⟨S4x4096x2048, .f32⟩
  | .hbm, ⟨6, _⟩ => ⟨S4x4095x2048, .f32⟩
  | .hbm, ⟨7, _⟩ => ⟨S_, .i32⟩
  | .hbm, ⟨8, _⟩ => ⟨S_, .f32⟩
  | .hbm, ⟨9, _⟩ => ⟨S4x4096x2048, .f32⟩
  | .hbm, ⟨10, _⟩ => ⟨S4x4096x2048, .f32⟩
  | .hbm, ⟨11, _⟩ => ⟨S1x2048, .f32⟩
  | .hbm, ⟨12, _⟩ => ⟨S2048, .f32⟩
  | .hbm, ⟨13, _⟩ => ⟨S1x1x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x4096x32, .f32⟩
  | .hbm, ⟨31, _⟩ => ⟨S4x4096x96, .f32⟩
  | .hbm, ⟨32, _⟩ => ⟨S4x4096x96, .f32⟩
  | .hbm, ⟨33, _⟩ => ⟨S4x4096x256, .f32⟩
  | .hbm, ⟨34, _⟩ => ⟨S4x4096x512, .f32⟩
  | .hbm, ⟨35, _⟩ => ⟨S16384x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel11.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.SoftmaxRow.lean ====
/-
A softmax row over the extended reals.

A row of scores has an entry for every key; a masked key's score is `⊥`, any other score is a real number. Dividing
once, after the weighted sum of the values, gives the same as weighting the values by the normalised weights, and a
masked key's value does not matter. Also here: what the programs' literals denote.
-/
module

public import Idealize.ShloMosaic.Lib.Pointwise

set_option maxRecDepth 16384

@[expose] public section

noncomputable section

namespace Cert.Band

open Idealize.ShloMosaic

/-- The kernel's scale is one eighth. -/
theorem eighth_bf16 : Ideal.ofBits .bf16 15872#16 = ((1 / 8 : ℝ) : EReal) := by
  simp [Ideal.ofBits, Ideal.ieee, -EReal.coe_mul]; norm_num

/-- The reference's scale is one eighth. -/
theorem eighth_f32 : Ideal.ofBits .f32 1040187392#32 = ((1 / 8 : ℝ) : EReal) := by
  simp [Ideal.ofBits, Ideal.ieee, -EReal.coe_mul]; norm_num

/-- A mask is the least extended real. -/
theorem bot_f32 : Ideal.ofBits .f32 4286578688#32 = (⊥ : EReal) := by
  simp [Ideal.ofBits, Ideal.ieee]

/-- The bound of the precondition is the greatest extended real. -/
theorem top_f32 : Ideal.ofBits .f32 2139095040#32 = (⊤ : EReal) := by
  simp [Ideal.ofBits, Ideal.ieee]

/-- A sum times a nonnegative real is the sum of the products. -/
theorem sum_mul_real {ι : Type} [DecidableEq ι] (s : Finset ι) (f : ι → EReal) (c : ℝ) (hc : 0 ≤ c) :
    (∑ k ∈ s, f k) * (c : EReal) = ∑ k ∈ s, f k * (c : EReal) := by
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The weight of key `k` before the division: the exponential of its score less the row's maximum. -/
def expo {n : ℕ} (s : Fin n → EReal) (k : Fin n) : EReal :=
  Ideal.exp (s k - Finset.univ.fold max ⊥ s)

/-- The row's maximum is real when every score is real or masked and one is real. -/
theorem max_real {n : ℕ} (s : Fin n → EReal) (hs : ∀ k, s k = ⊥ ∨ ∃ r : ℝ, s k = r) (k0 : Fin n) (h0 : s k0 ≠ ⊥) :
    ∃ M : ℝ, Finset.univ.fold max ⊥ s = (M : EReal) := by
  have hb : Finset.univ.fold max ⊥ s ≠ ⊥ := by
    have : s k0 ≤ Finset.univ.fold max ⊥ s := (Finset.le_fold_max _).mpr (.inr ⟨k0, Finset.mem_univ _, le_rfl⟩)
    exact fun e => h0 (le_bot_iff.mp (e ▸ this))
  have ht : Finset.univ.fold max ⊥ s ≠ ⊤ := by
    refine ne_of_lt ((Finset.fold_max_lt _).mpr ⟨bot_lt_top, fun k _ => ?_⟩)
    obtain h | ⟨r, h⟩ := hs k
    · rw [h]; exact bot_lt_top
    · rw [h]; exact EReal.coe_lt_top r
  exact ⟨_, (EReal.coe_toReal ht hb).symm⟩

/-- Every weight is a nonnegative real, positive exactly at the unmasked keys. -/
theorem expo_real {n : ℕ} (s : Fin n → EReal) (hs : ∀ k, s k = ⊥ ∨ ∃ r : ℝ, s k = r) (k0 : Fin n) (h0 : s k0 ≠ ⊥)
    (k : Fin n) : ∃ e : ℝ, expo s k = e ∧ 0 ≤ e ∧ (s k = ⊥ → e = 0) ∧ (s k ≠ ⊥ → 0 < e) := by
  obtain ⟨M, hM⟩ := max_real s hs k0 h0
  unfold expo
  rw [hM]
  obtain h | ⟨r, h⟩ := hs k
  · refine ⟨0, ?_, le_rfl, fun _ => rfl, fun e => absurd h e⟩
    rw [h, EReal.bot_sub]; simp
  · refine ⟨Real.exp (r - M), ?_, (Real.exp_pos _).le, fun e => ?_, fun _ => Real.exp_pos _⟩
    · rw [h, ← EReal.coe_sub, Ideal.exp_coe]
    · rw [h] at e; exact absurd e (EReal.coe_ne_bot r)

/-- Dividing the weighted sum once is weighting by the normalised weights; the values at masked keys do not matter. -/
theorem div_sum {n : ℕ} (s : Fin n → EReal) (hs : ∀ k, s k = ⊥ ∨ ∃ r : ℝ, s k = r) (k0 : Fin n) (h0 : s k0 ≠ ⊥)
    (v v' : Fin n → EReal) (hv : ∀ k, s k ≠ ⊥ → v k = v' k) :
    Ideal.div (∑ k, expo s k * v k) (∑ k, expo s k) = ∑ k, v' k * Ideal.div (expo s k) (∑ k, expo s k) := by
  choose e he hn hz hp using expo_real s hs k0 h0
  have hD : (∑ k, expo s k) = ((∑ k, e k : ℝ) : EReal) := by
    rw [Finset.sum_congr rfl fun k _ => he k]
    exact (map_sum (⟨⟨Real.toEReal, EReal.coe_zero⟩, EReal.coe_add⟩ : ℝ →+ EReal) e Finset.univ).symm
  have hpos : 0 < ∑ k, e k := Finset.sum_pos' (fun k _ => hn k) ⟨k0, Finset.mem_univ _, hp k0 h0⟩
  rw [hD, Ideal.div_coe hpos.ne', sum_mul_real _ _ _ (by positivity)]
  refine Finset.sum_congr rfl fun k _ => ?_
  rw [Ideal.div_coe hpos.ne']
  by_cases h : s k = ⊥
  · rw [he k, hz k h]; simp
  · rw [hv k h, mul_comm (expo s k) (v' k), mul_assoc]

end Cert.Band
-- ==== Proof.Target.lean ====
/-
The band attention as one function of its three arrays, the function that both programs are shown to compute.
-/
module

public import proofs.«01_k».proof.Proof.SoftmaxRow
public import Idealize.ShloMosaic.Lib.Pointwise

set_option maxRecDepth 16384

@[expose] public section

noncomputable section

namespace Cert.Band

open Idealize.ShloMosaic

/-- A matrix of extended reals, as the programs hold it. -/
abbrev Mat (n m : ℕ) : Type := (⟨2, ![n, m]⟩ : Shape).Idx → EReal

/-- A matrix read at any two numbers: its entry there, and zero outside it. -/
def rd {n m : ℕ} (X : Mat n m) (r c : ℕ) : EReal :=
  if h : r < n ∧ c < m then X (ix2 ⟨r, h.1⟩ ⟨c, h.2⟩) else 0

/-- An entry of a matrix is its reading at the entry's coordinates. -/
theorem rd_ix2 {n m : ℕ} (X : Mat n m) (a : Fin n) (b : Fin m) :
    X (ix2 a b) = rd X a.val b.val := by
  unfold rd
  rw [dif_pos ⟨a.isLt, b.isLt⟩]

/-- An entry of a matrix is its reading at numbers equal to the entry's coordinates. -/
theorem rd_of {n m : ℕ} (X : Mat n m) (j : (⟨2, ![n, m]⟩ : Shape).Idx) (r c : ℕ)
    (hr : (j 0).val = r) (hc : (j 1).val = c) : X j = rd X r c := by
  subst hr hc
  exact (congrArg X (eq_ix2 j)).trans (rd_ix2 X (j 0) (j 1))

/-- An extended real that is a real number. -/
def IsReal (x : EReal) : Prop := ∃ r : ℝ, x = r

theorem IsReal.zero : IsReal 0 := ⟨0, rfl⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type} (s : Finset ι) (f : ι → EReal) (h : ∀ i ∈ s, IsReal (f i)) : IsReal (∑ i ∈ s, f i) :=
  Finset.sum_induction f IsReal (fun _ _ => IsReal.add) IsReal.zero h

/-- The score of query row `R0 + i` (`R0` is where its chunk of 64 begins) and head `h` against the `k`-th key of
    the band, which begins 512 rows before the chunk; `⊥` where the band reaches before the sequence. A sequence has
    4096 rows. The relative bias is that of the distance, clipped. -/
def score (X : Mat 16384 2048) (Y : Mat 16384 3072) (B : Mat 24 192) (R0 i h : ℕ) (k : Fin 576) : EReal :=
  if 512 ≤ R0 % 4096 + k.val then
    (∑ d : Fin 64, rd X (R0 + i) (h * 64 + d.val) * rd Y (R0 + k.val - 512) (h * 64 + d.val)) * ((1 / 8 : ℝ) : EReal)
      + rd B h (min (575 + i - k.val) 191)
  else ⊥

/-- One entry of the result: the values under the band, weighted by the softmax of the scores. -/
def entry (X : Mat 16384 2048) (Y : Mat 16384 3072) (B : Mat 24 192) (R0 i C : ℕ) : EReal :=
  ∑ k : Fin 576, (if 512 ≤ R0 % 4096 + k.val then rd Y (R0 + k.val - 512) (1536 + C) else 0)
    * Ideal.div (expo (score X Y B R0 i (C / 64)) k) (∑ k', expo (score X Y B R0 i (C / 64)) k')

/-- The whole result. -/
def G (X : Mat 16384 2048) (Y : Mat 16384 3072) (B : Mat 24 192) (j : (⟨2, ![16384, 1536]⟩ : Shape).Idx) : EReal :=
  entry X Y B ((j 0).val / 64 * 64) ((j 0).val % 64) (j 1).val

/-- The queries, the keys and the biases are real numbers. -/
structure Reals (X : Mat 16384 2048) (Y : Mat 16384 3072) (B : Mat 24 192) : Prop where
  q : ∀ r c, c < 1536 → IsReal (rd X r c)
  k : ∀ r c, c < 1536 → IsReal (rd Y r c)
  b : ∀ h c, IsReal (rd B h c)

/-- Scores of real queries, keys and biases are real or masked. -/
theorem score_real {X : Mat 16384 2048} {Y : Mat 16384 3072} {B : Mat 24 192} (H : Reals X Y B) (R0 i h : ℕ) (hh : h < 24) (k : Fin 576)
    (hk : 512 ≤ R0 % 4096 + k.val) : IsReal (score X Y B R0 i h k) := by
  unfold score
  rw [if_pos hk]
  exact ((IsReal.sum _ _ fun d _ => (H.q _ _ (by omega)).mul (H.k _ _ (by omega))).mul ⟨_, rfl⟩).add (H.b _ _)

/-- The weighted values over the sum of the weights is the entry: the division may come last, and what the values are
    at the masked keys does not matter. -/
theorem entry_of_div {X : Mat 16384 2048} {Y : Mat 16384 3072} {B : Mat 24 192} (H : Reals X Y B) (R0 i C : ℕ) (hC : C < 1536) (v : Fin 576 → EReal)
    (hv : ∀ k : Fin 576, 512 ≤ R0 % 4096 + k.val → v k = rd Y (R0 + k.val - 512) (1536 + C)) :
    Ideal.div (∑ k, expo (score X Y B R0 i (C / 64)) k * v k) (∑ k, expo (score X Y B R0 i (C / 64)) k)
      = entry X Y B R0 i C := by
  have hm : ∀ k : Fin 576, ¬ 512 ≤ R0 % 4096 + k.val → score X Y B R0 i (C / 64) k = ⊥ :=
    fun k h => by unfold score; rw [if_neg h]
  refine div_sum _ (fun k => ?_) ⟨575, by omega⟩ ?_ v _ fun k hk => ?_
  · by_cases h : 512 ≤ R0 % 4096 + k.val
    · exact .inr (score_real H _ _ _ (by omega) k h)
    · exact .inl (hm k h)
  · obtain ⟨r, hr⟩ := score_real H R0 i (C / 64) (by omega) ⟨575, by omega⟩ (by show 512 ≤ _ + 575; omega)
    rw [hr]; exact EReal.coe_ne_bot r
  · have h : 512 ≤ R0 % 4096 + k.val := not_not.mp fun h => hk (hm k h)
    rw [if_pos h]; exact hv k h

end Cert.Band
-- ==== Proof.Chunk.lean ====
module

public import proofs.«01_k».proof.Proof.Gen.KernelIdeal.Frame
public import Idealize.ShloMosaic.Lib.Pipeline.ValueKit
public import proofs.«01_k».proof.Proof.Target

/-! What one grid point of the band attention stores: eight chunks of 64 query rows, each the same function of its
    queries, of the point's two key blocks and two value blocks, and of where its band starts. -/

@[expose] public section

set_option maxRecDepth 16384

noncomputable section

namespace Cert.KernelIdeal.Band

open Cert.KernelIdeal Cert.KernelIdeal.Gen Idealize.ShloMosaic Idealize.ShloMosaic.TcCoe Idealize.SL.Sem Cert.Band
  Idealize.ShloMosaic.WordCmp

variable {F : FTy → Type} [FloatOps F]

/-- The keys a chunk may look at: all of them unless the point is its sequence's first (`qi = 0`), and then those
    `w` rows into the band that lie in the current block. -/
def allowed (qi w : BitVec 32) : IVec S128x576 1 :=
  ori (broadcast S128x576 (Scalar.cmpi .sgt qi 0#32))
    (cmpi .sge (addi (iota .tc S128x576 32 [1] iota_S128x576_d1_w32) (broadcast S128x576 w)) (broadcast S128x576 512#32))

/-- The unnormalised weights of one chunk of queries `q` whose band starts at row `o` of the two key blocks. -/
def weights (qi w : BitVec 32) (o : ℕ) (ho : S1024x128.Slices ![o, 0] S576x128) (q : Vec F S64x128 .bf16)
    (kp kc : Vec F S512x128 .bf16) (b : Vec F S128x576 .f32) : FVec F S128x576 .f32 :=
  k0_pay20 (k0_pay8 b) (k0_pay12 (k0_pay10 q) (extractStridedSlice S576x128 ![o, 0] (k0_pay5 kp kc) ho)) (allowed qi w)

/-- One chunk's rows of the result. -/
def chunk (qi w : BitVec 32) (o : ℕ) (ho : S1024x128.Slices ![o, 0] S576x128) (q : Vec F S64x128 .bf16)
    (kp kc vp vc : Vec F S512x128 .bf16) (b : Vec F S128x576 .f32) : FVec F S64x128 .bf16 :=
  k0_pay40 k0_pay7 (weights qi w o ho q kp kc b)
    (k0_pay39 (truncf .bf16 (weights qi w o ho q kp kc b) bitsLt_bf16_f32) (extractStridedSlice S576x128 ![o, 0] (k0_pay6 vp vc) ho))

/-- The eight stores of a point are the eight chunks. -/
theorem out_eq (i : grid0.Coords) (x0 x1 x2 x3 x4 : Vec F S512x128 .bf16) (x5 : Vec F S128x576 .f32) :
    out0_6 i x0 x1 x2 x3 x4 x5 = View.canon
      [⟨r0_9, chunk (BitVec.ofNat 32 (i 2).val) 448#32 448 slices_S1024x128_o448_0_S576x128 (View.ld x0 r0_9) (View.ld x1 r0_0) (View.ld x2 r0_0) (View.ld x3 r0_0) (View.ld x4 r0_0) (View.ld x5 r0_1)⟩,
       ⟨r0_8, chunk (BitVec.ofNat 32 (i 2).val) 384#32 384 slices_S1024x128_o384_0_S576x128 (View.ld x0 r0_8) (View.ld x1 r0_0) (View.ld x2 r0_0) (View.ld x3 r0_0) (View.ld x4 r0_0) (View.ld x5 r0_1)⟩,
       ⟨r0_7, chunk (BitVec.ofNat 32 (i 2).val) 320#32 320 slices_S1024x128_o320_0_S576x128 (View.ld x0 r0_7) (View.ld x1 r0_0) (View.ld x2 r0_0) (View.ld x3 r0_0) (View.ld x4 r0_0) (View.ld x5 r0_1)⟩,
       ⟨r0_6, chunk (BitVec.ofNat 32 (i 2).val) 256#32 256 slices_S1024x128_o256_0_S576x128 (View.ld x0 r0_6) (View.ld x1 r0_0) (View.ld x2 r0_0) (View.ld x3 r0_0) (View.ld x4 r0_0) (View.ld x5 r0_1)⟩,
       ⟨r0_5, chunk (BitVec.ofNat 32 (i 2).val) 192#32 192 slices_S1024x128_o192_0_S576x128 (View.ld x0 r0_5) (View.ld x1 r0_0) (View.ld x2 r0_0) (View.ld x3 r0_0) (View.ld x4 r0_0) (View.ld x5 r0_1)⟩,
       ⟨r0_4, chunk (BitVec.ofNat 32 (i 2).val) 128#32 128 slices_S1024x128_o128_0_S576x128 (View.ld x0 r0_4) (View.ld x1 r0_0) (View.ld x2 r0_0) (View.ld x3 r0_0) (View.ld x4 r0_0) (View.ld x5 r0_1)⟩,
       ⟨r0_3, chunk (BitVec.ofNat 32 (i 2).val) 64#32 64 slices_S1024x128_o64_0_S576x128 (View.ld x0 r0_3) (View.ld x1 r0_0) (View.ld x2 r0_0) (View.ld x3 r0_0) (View.ld x4 r0_0) (View.ld x5 r0_1)⟩,
       ⟨r0_2, chunk (BitVec.ofNat 32 (i 2).val) 0#32 0 slices_S1024x128_o0_0_S576x128 (View.ld x0 r0_2) (View.ld x1 r0_0) (View.ld x2 r0_0) (View.ld x3 r0_0) (View.ld x4 r0_0) (View.ld x5 r0_1)⟩] := by
  rfl

/-- A dot product over two heads' columns whose left factor is kept on one head's columns alone, and scaled by one
    eighth, is that head's dot product, scaled. -/
theorem half_dot (hh : ℕ) (h2 : hh < 2) (g K sel : Fin 128 → EReal)
    (hs : ∀ x : Fin 128, sel x = if x.val / 64 = hh then g x * ((1 / 8 : ℝ) : EReal) else 0) :
    ∑ x, sel x * K x = (∑ d : Fin 64, g ⟨hh * 64 + d.val, by omega⟩ * K ⟨hh * 64 + d.val, by omega⟩) * ((1 / 8 : ℝ) : EReal) := by
  have h0 : ∀ x : Fin 128, x.val / 64 ≠ hh → sel x * K x = 0 := fun x h => by rw [hs, if_neg h, zero_mul]
  have h1 : ∀ x : Fin 128, x.val / 64 = hh → sel x * K x = g x * K x * ((1 / 8 : ℝ) : EReal) := fun x h => by
    rw [hs, if_pos h, mul_right_comm]
  rw [sum_mul_real _ _ _ (by norm_num), Fin.sum_univ_two_halves 64 64 rfl]
  obtain rfl | rfl : hh = 0 ∨ hh = 1 := by omega
  · rw [Finset.sum_eq_zero (f := fun k : Fin 64 => sel ⟨64 + k.val, _⟩ * K ⟨64 + k.val, _⟩)
      (fun d _ => h0 _ (by show (64 + d.val) / 64 ≠ 0; omega)), add_zero]
    refine Finset.sum_congr rfl fun d _ => (h1 ⟨d.val, by omega⟩ (by show d.val / 64 = 0; omega)).trans ?_
    have e : (⟨d.val, by omega⟩ : Fin 128) = ⟨0 * 64 + d.val, by omega⟩ := Fin.ext (by show d.val = 0 * 64 + d.val; omega)
    rw [e]
  · rw [Finset.sum_eq_zero (f := fun k : Fin 64 => sel ⟨k.val, _⟩ * K ⟨k.val, _⟩)
      (fun d _ => h0 _ (by show d.val / 64 ≠ 1; omega)), zero_add]
    refine Finset.sum_congr rfl fun d _ => (h1 ⟨64 + d.val, by omega⟩ (by show (64 + d.val) / 64 = 1; omega)).trans ?_
    have e : (⟨64 + d.val, by omega⟩ : Fin 128) = ⟨1 * 64 + d.val, by omega⟩ := Fin.ext (by show 64 + d.val = 1 * 64 + d.val; omega)
    rw [e]

/-- Which keys a chunk may look at, as a fact about where its band begins in the sequence. -/
theorem allowed_word (t o k : ℕ) (ht : t < 8) (ho : o ≤ 448) (hk : k < 576) :
    IntOp.ori (Scalar.cmpi .sgt (BitVec.ofNat 32 t) 0#32) (IntOp.cmpi .sge (IntOp.addi (BitVec.ofNat 32 k) (BitVec.ofNat 32 o)) 512#32)
      = BitVec.ofBool (decide (512 ≤ t * 512 + o + k)) := by
  have h1 : Scalar.cmpi .sgt (BitVec.ofNat 32 t) 0#32 = BitVec.ofBool (decide (0 < t)) :=
    cmpi_sgt_ofNat (a := t) (b := 0) (by omega) (by omega)
  have h2 : IntOp.cmpi .sge (IntOp.addi (BitVec.ofNat 32 k) (BitVec.ofNat 32 o)) 512#32 = BitVec.ofBool (decide (512 ≤ k + o)) := by
    have : IntOp.addi (BitVec.ofNat 32 k) (BitVec.ofNat 32 o) = BitVec.ofNat 32 (k + o) := (BitVec.ofNat_add k o).symm
    rw [this]
    exact cmpi_sge_ofNat (a := k + o) (b := 512) (by omega) (by omega)
  rw [h1, h2, ori_ofBool, ← Bool.decide_or]
  congr 1
  exact decide_eq_decide.mpr (by omega)

/-- The score that a chunk forms from its blocks is the band attention's. -/
theorem score_of_blocks (X : Mat 16384 2048) (Y : Mat 16384 3072) (B : Mat 24 192) (R0 p t o : ℕ)
    (ht : t < 8) (hol : o ≤ 448) (hR : R0 % 4096 = t * 512 + o)
    (q : Vec Ideal S64x128 .bf16)
    (kp kc : Vec Ideal S512x128 .bf16) (b : Vec Ideal S128x576 .f32)
    (hq : ∀ (i : Fin 64) (x : Fin 128), q (ix2 i x) = rd X (R0 + i.val) (p * 128 + x.val))
    (hkp : ∀ (y : Fin 512) (x : Fin 128), 0 < t → kp (ix2 y x) = rd Y (R0 - o + y.val - 512) (p * 128 + x.val))
    (hkc : ∀ (y : Fin 512) (x : Fin 128), kc (ix2 y x) = rd Y (R0 - o + y.val) (p * 128 + x.val))
    (hb : ∀ (r : Fin 128) (k : Fin 576), b (ix2 r k) = rd B (2 * p + r.val / 64) (min (575 + r.val % 64 - k.val) 191))
    (r : Fin 128) (k' : Fin 576) :
    Scalar.select (IntOp.ori (Scalar.cmpi .sgt (BitVec.ofNat 32 t) 0#32)
        (IntOp.cmpi .sge (IntOp.addi (BitVec.ofNat 32 k'.val) (BitVec.ofNat 32 o)) 512#32))
      ((∑ x : Fin 128, (if h : r.val < 64 then
            Scalar.select (IntOp.cmpi .slt (BitVec.ofNat 32 x.val) 64#32) (q (ix2 ⟨r.val, h⟩ x) * ((1 / 8 : ℝ) : EReal)) 0
          else Scalar.select (IntOp.cmpi .slt (BitVec.ofNat 32 x.val) 64#32) 0 (q (ix2 ⟨r.val - 64, by omega⟩ x) * ((1 / 8 : ℝ) : EReal)))
          * (if h : o + k'.val < 512 then kp (ix2 ⟨o + k'.val, h⟩ x) else kc (ix2 ⟨o + k'.val - 512, by omega⟩ x)))
        + b (ix2 r k')) (⊥ : EReal) = score X Y B R0 (r.val % 64) (2 * p + r.val / 64) k' := by
  have hle : o ≤ R0 := by have := Nat.mod_le R0 4096; omega
  rw [allowed_word t o k'.val ht hol k'.isLt, select_ofBool]
  unfold score
  have hc : decide (512 ≤ t * 512 + o + k'.val) = decide (512 ≤ R0 % 4096 + k'.val) := by rw [hR]
  rw [hc]
  by_cases h5 : 512 ≤ R0 % 4096 + k'.val
  · rw [decide_eq_true h5, if_pos rfl, if_pos h5, hb]
    congr 1
    have hK : ∀ x : Fin 128, (if h : o + k'.val < 512 then kp (ix2 ⟨o + k'.val, h⟩ x) else kc (ix2 ⟨o + k'.val - 512, by omega⟩ x))
        = rd Y (R0 + k'.val - 512) (p * 128 + x.val) := fun x => by
      by_cases h : o + k'.val < 512
      · rw [dif_pos h]
        refine (hkp ⟨o + k'.val, h⟩ x (by omega)).trans (congrArg (fun n => rd Y n (p * 128 + x.val)) ?_)
        show R0 - o + (o + k'.val) - 512 = _
        omega
      · rw [dif_neg h]
        refine (hkc ⟨o + k'.val - 512, by omega⟩ x).trans (congrArg (fun n => rd Y n (p * 128 + x.val)) ?_)
        show R0 - o + (o + k'.val - 512) = _
        omega
    refine (half_dot (r.val / 64) (by omega) (fun x => rd X (R0 + r.val % 64) (p * 128 + x.val)) _ _ fun x => ?_).trans ?_
    · have hx : Scalar.select (IntOp.cmpi .slt (BitVec.ofNat 32 x.val) 64#32) = fun a b : EReal => if x.val < 64 then a else b := by
        funext a b
        rw [show IntOp.cmpi .slt (BitVec.ofNat 32 x.val) 64#32 = BitVec.ofBool (decide (x.val < 64)) from
          cmpi_slt_ofNat (a := x.val) (b := 64) (by omega) (by omega), select_ofBool]
        by_cases h : x.val < 64 <;> simp [h]
      by_cases h : r.val < 64
      · rw [dif_pos h, hx, hq]
        have e : r.val % 64 = r.val := Nat.mod_eq_of_lt h
        have e0 : r.val / 64 = 0 := Nat.div_eq_of_lt h
        show (if x.val < 64 then _ else _) = if x.val / 64 = r.val / 64 then _ else _
        rw [e, e0]
        by_cases hx : x.val < 64
        · rw [if_pos hx, if_pos (by omega)]
        · rw [if_neg hx, if_neg (by omega)]
      · rw [dif_neg h, hx, hq]
        have e : r.val % 64 = r.val - 64 := by omega
        have e0 : r.val / 64 = 1 := by omega
        show (if x.val < 64 then _ else _) = if x.val / 64 = r.val / 64 then _ else _
        rw [e, e0]
        by_cases hx : x.val < 64
        · rw [if_pos hx, if_neg (by omega)]
        · rw [if_neg hx, if_pos (by omega)]
    · refine congrArg (· * ((1 / 8 : ℝ) : EReal)) (Finset.sum_congr rfl fun d _ => ?_)
      rw [hK]
      have e : p * 128 + (r.val / 64 * 64 + d.val) = (2 * p + r.val / 64) * 64 + d.val := by ring
      show rd X _ (p * 128 + (r.val / 64 * 64 + d.val)) * rd Y _ (p * 128 + (r.val / 64 * 64 + d.val)) = _
      rw [e]
  · rw [decide_eq_false h5, if_neg (by decide), if_neg h5]

/-- A chunk's weights, read at a stacked query row and a key: those of the band attention. -/
theorem weights_at (X : Mat 16384 2048) (Y : Mat 16384 3072) (B : Mat 24 192) (R0 p t o : ℕ) (w : BitVec 32)
    (ht : t < 8) (hol : o ≤ 448) (hw : w = BitVec.ofNat 32 o) (hR : R0 % 4096 = t * 512 + o)
    (ho : S1024x128.Slices ![o, 0] S576x128) (q : Vec Ideal S64x128 .bf16)
    (kp kc : Vec Ideal S512x128 .bf16) (b : Vec Ideal S128x576 .f32)
    (hq : ∀ (i : Fin 64) (x : Fin 128), q (ix2 i x) = rd X (R0 + i.val) (p * 128 + x.val))
    (hkp : ∀ (y : Fin 512) (x : Fin 128), 0 < t → kp (ix2 y x) = rd Y (R0 - o + y.val - 512) (p * 128 + x.val))
    (hkc : ∀ (y : Fin 512) (x : Fin 128), kc (ix2 y x) = rd Y (R0 - o + y.val) (p * 128 + x.val))
    (hb : ∀ (r : Fin 128) (k : Fin 576), b (ix2 r k) = rd B (2 * p + r.val / 64) (min (575 + r.val % 64 - k.val) 191))
    (r : Fin 128) (k : Fin 576) :
    weights (F := Ideal) (BitVec.ofNat 32 t) w o ho q kp kc b (ix2 r k)
      = expo (score X Y B R0 (r.val % 64) (2 * p + r.val / 64)) k := by
  subst hw
  pointwise [weights, allowed, k0_pay20, k0_pay8, k0_pay12, k0_pay10, k0_pay5, k0_pay7]
  rw [bot_f32, eighth_bf16]
  have hS : ∀ k' : Fin 576, Scalar.select (IntOp.ori (Scalar.cmpi .sgt (BitVec.ofNat 32 t) 0#32)
        (IntOp.cmpi .sge (IntOp.addi (BitVec.ofNat 32 k'.val) (BitVec.ofNat 32 o)) 512#32))
      ((∑ x : Fin 128, (if h : r.val < 64 then
            Scalar.select (IntOp.cmpi .slt (BitVec.ofNat 32 x.val) 64#32) (q (ix2 ⟨r.val, h⟩ x) * ((1 / 8 : ℝ) : EReal)) 0
          else Scalar.select (IntOp.cmpi .slt (BitVec.ofNat 32 x.val) 64#32) 0 (q (ix2 ⟨r.val - 64, by omega⟩ x) * ((1 / 8 : ℝ) : EReal)))
          * (if h : o + k'.val < 512 then kp (ix2 ⟨o + k'.val, h⟩ x) else kc (ix2 ⟨o + k'.val - 512, by omega⟩ x)))
        + b (ix2 r k')) (⊥ : EReal) = score X Y B R0 (r.val % 64) (2 * p + r.val / 64) k' := fun k' =>
    score_of_blocks X Y B R0 p t o ht hol hR q kp kc b hq hkp hkc hb r k'
  unfold expo
  simp only [← hS]

/-- A chunk's rows of the result are the band attention's. -/
theorem chunk_at {X : Mat 16384 2048} {Y : Mat 16384 3072} {B : Mat 24 192} (H : Reals X Y B) (R0 p t o : ℕ) (hp : p < 12) (w : BitVec 32)
    (ht : t < 8) (hol : o ≤ 448) (hw : w = BitVec.ofNat 32 o) (hR : R0 % 4096 = t * 512 + o)
    (ho : S1024x128.Slices ![o, 0] S576x128) (q : Vec Ideal S64x128 .bf16)
    (kp kc vp vc : Vec Ideal S512x128 .bf16) (b : Vec Ideal S128x576 .f32)
    (hq : ∀ (i : Fin 64) (x : Fin 128), q (ix2 i x) = rd X (R0 + i.val) (p * 128 + x.val))
    (hkp : ∀ (y : Fin 512) (x : Fin 128), 0 < t → kp (ix2 y x) = rd Y (R0 - o + y.val - 512) (p * 128 + x.val))
    (hkc : ∀ (y : Fin 512) (x : Fin 128), kc (ix2 y x) = rd Y (R0 - o + y.val) (p * 128 + x.val))
    (hvp : ∀ (y : Fin 512) (x : Fin 128), 0 < t → vp (ix2 y x) = rd Y (R0 - o + y.val - 512) (1536 + p * 128 + x.val))
    (hvc : ∀ (y : Fin 512) (x : Fin 128), vc (ix2 y x) = rd Y (R0 - o + y.val) (1536 + p * 128 + x.val))
    (hb : ∀ (r : Fin 128) (k : Fin 576), b (ix2 r k) = rd B (2 * p + r.val / 64) (min (575 + r.val % 64 - k.val) 191))
    (r : Fin 64) (k : Fin 128) :
    chunk (F := Ideal) (BitVec.ofNat 32 t) w o ho q kp kc vp vc b (ix2 r k) = entry X Y B R0 r.val (p * 128 + k.val) := by
  have W := weights_at X Y B R0 p t o w ht hol hw hR ho q kp kc b hq hkp hkc hb
  have hle : o ≤ R0 := by have := Nat.mod_le R0 4096; omega
  have hV : ∀ x : Fin 576, 512 ≤ R0 % 4096 + x.val →
      (if h : o + x.val < 512 then vp (ix2 ⟨o + x.val, h⟩ k) else vc (ix2 ⟨o + x.val - 512, by omega⟩ k))
        = rd Y (R0 + x.val - 512) (1536 + (p * 128 + k.val)) := fun x h5 => by
    by_cases h : o + x.val < 512
    · rw [dif_pos h]
      refine (hvp ⟨o + x.val, h⟩ k (by omega)).trans (congrArg₂ (rd Y) ?_ (by omega))
      show R0 - o + (o + x.val) - 512 = _
      omega
    · rw [dif_neg h]
      refine (hvc ⟨o + x.val - 512, by omega⟩ k).trans (congrArg₂ (rd Y) ?_ (by omega))
      show R0 - o + (o + x.val - 512) = _
      omega
  have hk : Scalar.select (IntOp.cmpi .slt (BitVec.ofNat 32 k.val) 64#32) = fun a b : EReal => if k.val < 64 then a else b := by
    funext a b
    rw [show IntOp.cmpi .slt (BitVec.ofNat 32 k.val) 64#32 = BitVec.ofBool (decide (k.val < 64)) from
      cmpi_slt_ofNat (a := k.val) (b := 64) (by omega) (by omega), select_ofBool]
    by_cases h : k.val < 64 <;> simp [h]
  have E := entry_of_div H R0 r.val (p * 128 + k.val) (by omega) _ hV
  pointwise [chunk, k0_pay40, k0_pay7, k0_pay39, k0_pay6]
  rw [hk]
  simp only [W]
  by_cases h : k.val < 64
  · have e1 : (2 * p + r.val / 64) = (p * 128 + k.val) / 64 := by omega
    have e2 : r.val % 64 = r.val := by omega
    rw [if_pos h, e1, e2]
    exact E
  · have e1 : (2 * p + (64 + r.val) / 64) = (p * 128 + k.val) / 64 := by omega
    have e2 : (64 + r.val) % 64 = r.val := by omega
    rw [if_neg h, e1, e2]
    exact E

end Cert.KernelIdeal.Band

end
-- ==== Proof.Bias.lean ====
module

public import proofs.«01_k».proof.Proof.Gen.KernelIdeal.Value
public import Idealize.ShloMosaic.Lib.Pipeline.ValueKit
public import Idealize.ShloMosaic.Lib.StableHlo.ReadAt
public import proofs.«01_k».proof.Proof.Target

/-! The relative biases as the kernel's host code lays them out: row `64 h + i`, column `k` holds head `h`'s bias of
    the distance between the chunk's `i`-th query and the band's `k`-th key. -/

@[expose] public section

set_option maxRecDepth 16384

noncomputable section

namespace Cert.KernelIdeal.Band

open Cert.KernelIdeal Cert.KernelIdeal.Gen Idealize.ShloMosaic Idealize.ShloMosaic.TcCoe Idealize.SL.Sem Cert.Band
  Idealize.ShloMosaic.WordCmp

variable (m : (ℓ : Loc nD τ sig) → Buf (Elt Ideal) ℓ)

/-- A piece of a stack at a unit coordinate. -/
theorem unit_idx (h : Fin 24) (i : Fin 16) (k : Fin 576) (j : S24x1x576.Idx) (h0 : (j 0).val = (ix3 h i k 0).val)
    (h1 : (j 1).val = 0) (h2 : (j 2).val = (ix3 h i k 2).val) : j = ix3 h 0 k :=
  (eq_ix3 j).trans (congr (congr (congrArg ix3 (Fin.ext h0)) (Fin.ext h1)) (Fin.ext h2))

/-- The long row of a head, read at `n`: its last bias until entry 447, then the biases backwards. -/
theorem long_row (B : Mat 24 192) (h : Fin 24) (k n i : ℕ) (hn : n + i = 63 + k) (e : n < 447 → Fin 192)
    (e' : ¬ n < 447 → Fin 192) (he : ∀ h, (e h).val = 191) (he' : ∀ h, (e' h).val = 191 - (n - 447)) :
    (if hk : n < 447 then B (ix2 h (e hk)) else B (ix2 h (e' hk))) = rd B h.val (min (575 + i - k) 191) := by
  split
  · exact rd_of B _ _ _ rfl (by show (e _).val = _; rw [he]; omega)
  · exact rd_of B _ _ _ rfl (by show (e' _).val = _; rw [he']; omega)

/-- The first sixteen of a head's rows. -/
theorem rows0 (c : Dev nD) (h : Fin 24) (i : Fin 16) (k : Fin 576) :
    (StableHlo.upto hostOps0 (fun b => m (c, b)) 136 (Proc.devRef .tc main_v132) : FVec Ideal S24x16x576 .f32) (ix3 h i k)
      = rd (m ((c : Thread nD τ).loc main_arg2) : Mat 24 192) h.val (min (575 + (0 + i.val) - k.val) 191) := by
  after_reads_simp
  concat_tiles j hj
  all_goals
    obtain rfl := unit_idx h i k j ‹_› ‹_› ‹_›
    replace hj : i.val = _ := hj
    simp only [Matrix.cons_val]
    after_reads_simp
    pointwise
    after_reads_simp
    pointwise
    rw [hj]
    exact long_row _ h _ _ _ (by omega) _ _ (fun _ => rfl) (fun _ => by simp [Fin.rev])

/-- The second sixteen of a head's rows. -/
theorem rows1 (c : Dev nD) (h : Fin 24) (i : Fin 16) (k : Fin 576) :
    (StableHlo.upto hostOps0 (fun b => m (c, b)) 136 (Proc.devRef .tc main_v133) : FVec Ideal S24x16x576 .f32) (ix3 h i k)
      = rd (m ((c : Thread nD τ).loc main_arg2) : Mat 24 192) h.val (min (575 + (16 + i.val) - k.val) 191) := by
  after_reads_simp
  concat_tiles j hj
  all_goals
    obtain rfl := unit_idx h i k j ‹_› ‹_› ‹_›
    replace hj : i.val = _ := hj
    simp only [Matrix.cons_val]
    after_reads_simp
    pointwise
    after_reads_simp
    pointwise
    rw [hj]
    exact long_row _ h _ _ _ (by omega) _ _ (fun _ => rfl) (fun _ => by simp [Fin.rev])

/-- The third sixteen of a head's rows. -/
theorem rows2 (c : Dev nD) (h : Fin 24) (i : Fin 16) (k : Fin 576) :
    (StableHlo.upto hostOps0 (fun b => m (c, b)) 136 (Proc.devRef .tc main_v134) : FVec Ideal S24x16x576 .f32) (ix3 h i k)
      = rd (m ((c : Thread nD τ).loc main_arg2) : Mat 24 192) h.val (min (575 + (32 + i.val) - k.val) 191) := by
  after_reads_simp
  concat_tiles j hj
  all_goals
    obtain rfl := unit_idx h i k j ‹_› ‹_› ‹_›
    replace hj : i.val = _ := hj
    simp only [Matrix.cons_val]
    after_reads_simp
    pointwise
    after_reads_simp
    pointwise
    rw [hj]
    exact long_row _ h _ _ _ (by omega) _ _ (fun _ => rfl) (fun _ => by simp [Fin.rev])

/-- The last sixteen of a head's rows. -/
theorem rows3 (c : Dev nD) (h : Fin 24) (i : Fin 16) (k : Fin 576) :
    (StableHlo.upto hostOps0 (fun b => m (c, b)) 136 (Proc.devRef .tc main_v135) : FVec Ideal S24x16x576 .f32) (ix3 h i k)
      = rd (m ((c : Thread nD τ).loc main_arg2) : Mat 24 192) h.val (min (575 + (48 + i.val) - k.val) 191) := by
  after_reads_simp
  concat_tiles j hj
  all_goals
    obtain rfl := unit_idx h i k j ‹_› ‹_› ‹_›
    replace hj : i.val = _ := hj
    simp only [Matrix.cons_val]
    after_reads_simp
    pointwise
    after_reads_simp
    pointwise
    rw [hj]
    exact long_row _ h _ _ _ (by omega) _ _ (fun _ => rfl) (fun _ => by simp [Fin.rev])

/-- The bias operand of the call: row `64 h + i`, column `k`. -/
theorem bias_at (c : Dev nD) (a : Fin 1536) (k : Fin 576) :
    (V m c main_v137 : FVec Ideal S1536x576 .f32) (ix2 a k)
      = rd (m ((c : Thread nD τ).loc main_arg2) : Mat 24 192) (a.val / 64) (min (575 + a.val % 64 - k.val) 191) := by
  show (StableHlo.after hostOps0 (fun b => m (c, b)) (Proc.devRef .tc main_v137) : FVec Ideal S1536x576 .f32) (ix2 a k) = _
  after_reads_simp
  pointwise
  split
  · refine (rows0 m c _ _ _).trans (congrArg (fun n => rd _ _ (min (575 + n - k.val) 191)) ?_)
    show 0 + a.val % 64 = _
    omega
  split
  · refine (rows1 m c _ _ _).trans (congrArg (fun n => rd _ _ (min (575 + n - k.val) 191)) ?_)
    show 16 + (a.val % 64 - 16) = _
    omega
  split
  · refine (rows2 m c _ _ _).trans (congrArg (fun n => rd _ _ (min (575 + n - k.val) 191)) ?_)
    show 32 + (a.val % 64 - 16 - 16) = _
    omega
  · refine (rows3 m c _ _ _).trans (congrArg (fun n => rd _ _ (min (575 + n - k.val) 191)) ?_)
    show 48 + (a.val % 64 - 16 - 16 - 16) = _
    omega

end Cert.KernelIdeal.Band

end
-- ==== Proof.Array.lean ====
module

public import proofs.«01_k».proof.Proof.Chunk
public import proofs.«01_k».proof.Proof.Bias

/-! What the kernel's result array holds after the run: the band attention of the three arguments. -/

@[expose] public section

set_option maxRecDepth 16384

noncomputable section

namespace Cert.KernelIdeal.Band

open Cert.KernelIdeal Cert.KernelIdeal.Gen Idealize.ShloMosaic Idealize.ShloMosaic.TcCoe Idealize.SL.Sem Cert.Band

variable (m : (ℓ : Loc nD τ sig) → Buf (Elt Ideal) ℓ) (c : Dev nD)

/-- The queries, as the run finds them. -/
abbrev argX : Mat 16384 2048 := m ((c : Thread nD τ).loc main_arg0)
/-- The keys and values. -/
abbrev argY : Mat 16384 3072 := m ((c : Thread nD τ).loc main_arg1)
/-- The relative biases. -/
abbrev argB : Mat 24 192 := m ((c : Thread nD τ).loc main_arg2)

/-- Which block each window stages at point `t`: its sequence is `t / 96`, its pair of heads `t / 8 % 12`, its block of
    rows `t % 8`. -/
theorem idx : ∀ t : Fin cfg0.N,
    win0_0.index t = ![t.val / 96 * 8 + t.val % 8, t.val / 8 % 12]
    ∧ win0_1.index t = ![t.val / 96 * 8 + (t.val % 8 - 1), t.val / 8 % 12]
    ∧ win0_2.index t = ![t.val / 96 * 8 + t.val % 8, t.val / 8 % 12]
    ∧ win0_3.index t = ![t.val / 96 * 8 + (t.val % 8 - 1), 12 + t.val / 8 % 12]
    ∧ win0_4.index t = ![t.val / 96 * 8 + t.val % 8, 12 + t.val / 8 % 12]
    ∧ win0_5.index t = ![t.val / 8 % 12, 0]
    ∧ win0_6.index t = ![t.val / 96 * 8 + t.val % 8, t.val / 8 % 12]
    ∧ (grid0.coords t 2).val = t.val % 8 :=
  (by decide +kernel : ∀ t : Fin grid0.N, _)

theorem blk0 (t : Fin cfg0.N) (y : Fin 512) (x : Fin 128) : (iblk m c 0 t : Vec Ideal S512x128 .bf16) (ix2 y x)
    = rd (argX m c) ((t.val / 96 * 8 + t.val % 8) * 512 + y.val) (t.val / 8 % 12 * 128 + x.val) := by
  show argX m c (((cfg0.win 0).blk t).view.emb (ix2 y x)) = _
  refine rd_of _ _ _ _ ?_ ?_ <;> blk_simp [idx t]

theorem blk1 (t : Fin cfg0.N) (y : Fin 512) (x : Fin 128) : (iblk m c 1 t : Vec Ideal S512x128 .bf16) (ix2 y x)
    = rd (argY m c) ((t.val / 96 * 8 + (t.val % 8 - 1)) * 512 + y.val) (t.val / 8 % 12 * 128 + x.val) := by
  show argY m c (((cfg0.win 1).blk t).view.emb (ix2 y x)) = _
  refine rd_of _ _ _ _ ?_ ?_ <;> blk_simp [idx t]

theorem blk2 (t : Fin cfg0.N) (y : Fin 512) (x : Fin 128) : (iblk m c 2 t : Vec Ideal S512x128 .bf16) (ix2 y x)
    = rd (argY m c) ((t.val / 96 * 8 + t.val % 8) * 512 + y.val) (t.val / 8 % 12 * 128 + x.val) := by
  show argY m c (((cfg0.win 2).blk t).view.emb (ix2 y x)) = _
  refine rd_of _ _ _ _ ?_ ?_ <;> blk_simp [idx t]

theorem blk3 (t : Fin cfg0.N) (y : Fin 512) (x : Fin 128) : (iblk m c 3 t : Vec Ideal S512x128 .bf16) (ix2 y x)
    = rd (argY m c) ((t.val / 96 * 8 + (t.val % 8 - 1)) * 512 + y.val) (1536 + t.val / 8 % 12 * 128 + x.val) := by
  show argY m c (((cfg0.win 3).blk t).view.emb (ix2 y x)) = _
  refine rd_of _ _ _ _ ?_ ?_ <;> blk_simp [idx t]
  all_goals omega

theorem blk4 (t : Fin cfg0.N) (y : Fin 512) (x : Fin 128) : (iblk m c 4 t : Vec Ideal S512x128 .bf16) (ix2 y x)
    = rd (argY m c) ((t.val / 96 * 8 + t.val % 8) * 512 + y.val) (1536 + t.val / 8 % 12 * 128 + x.val) := by
  show argY m c (((cfg0.win 4).blk t).view.emb (ix2 y x)) = _
  refine rd_of _ _ _ _ ?_ ?_ <;> blk_simp [idx t]
  all_goals omega

theorem blk5 (t : Fin cfg0.N) (r : Fin 128) (k : Fin 576) : (iblk m c 5 t : Vec Ideal S128x576 .f32) (ix2 r k)
    = rd (argB m c) (2 * (t.val / 8 % 12) + r.val / 64) (min (575 + r.val % 64 - k.val) 191) := by
  have ht : t.val < 384 := lt_of_lt_of_eq t.isLt Gen.N_0
  have e : ((cfg0.win 5).blk t).view.emb (ix2 r k) = (ix2 ⟨t.val / 8 % 12 * 128 + r.val, by omega⟩ k : S1536x576.Idx) := by
    blk_ext [idx t]
  show (V m c main_v137 : FVec Ideal S1536x576 .f32) (((cfg0.win 5).blk t).view.emb (ix2 r k)) = _
  rw [e]
  refine (bias_at m c _ k).trans ?_
  show rd _ ((t.val / 8 % 12 * 128 + r.val) / 64) (min (575 + (t.val / 8 % 12 * 128 + r.val) % 64 - k.val) 191) = _
  have e1 : (t.val / 8 % 12 * 128 + r.val) / 64 = 2 * (t.val / 8 % 12) + r.val / 64 := by omega
  have e2 : (t.val / 8 % 12 * 128 + r.val) % 64 = r.val % 64 := by omega
  rw [e1, e2]

/-- The chunk of point `t` that begins `o` rows into its block, at an index of the chunk: the band attention's entry. -/
theorem piece (H : Reals (argX m c) (argY m c) (argB m c)) (t : Fin cfg0.N) (o : ℕ) (w : BitVec 32) (hol : o ≤ 448)
    (hw : w = BitVec.ofNat 32 o) (ho : S1024x128.Slices ![o, 0] S576x128) (q : Vec Ideal S64x128 .bf16)
    (kp kc vp vc : Vec Ideal S512x128 .bf16) (b : Vec Ideal S128x576 .f32)
    (hq : ∀ (i : Fin 64) (x : Fin 128), q (ix2 i x) = (iblk m c 0 t : Vec Ideal S512x128 .bf16) (ix2 ⟨o + i.val, by omega⟩ x))
    (hkp : ∀ (y : Fin 512) (x : Fin 128), kp (ix2 y x) = (iblk m c 1 t : Vec Ideal S512x128 .bf16) (ix2 y x))
    (hkc : ∀ (y : Fin 512) (x : Fin 128), kc (ix2 y x) = (iblk m c 2 t : Vec Ideal S512x128 .bf16) (ix2 y x))
    (hvp : ∀ (y : Fin 512) (x : Fin 128), vp (ix2 y x) = (iblk m c 3 t : Vec Ideal S512x128 .bf16) (ix2 y x))
    (hvc : ∀ (y : Fin 512) (x : Fin 128), vc (ix2 y x) = (iblk m c 4 t : Vec Ideal S512x128 .bf16) (ix2 y x))
    (hb : ∀ (r : Fin 128) (k : Fin 576), b (ix2 r k) = (iblk m c 5 t : Vec Ideal S128x576 .f32) (ix2 r k))
    (r : Fin 64) (k : Fin 128) :
    chunk (F := Ideal) (BitVec.ofNat 32 (grid0.coords t 2).val) w o ho q kp kc vp vc b (ix2 r k)
      = entry (argX m c) (argY m c) (argB m c) ((t.val / 96 * 8 + t.val % 8) * 512 + o) r.val (t.val / 8 % 12 * 128 + k.val) := by
  have hc : (grid0.coords t 2).val = t.val % 8 := (idx t).2.2.2.2.2.2.2
  rw [hc]
  refine chunk_at H ((t.val / 96 * 8 + t.val % 8) * 512 + o) (t.val / 8 % 12) (t.val % 8) o (by omega) w (by omega) hol hw
    (by omega) ho q kp kc vp vc b ?_ ?_ ?_ ?_ ?_ ?_ r k
  · intro i x
    rw [hq, blk0, ← Nat.add_assoc]
  · intro y x h
    rw [hkp, blk1]
    congr 1; omega
  · intro y x
    rw [hkc, blk2]
    congr 1; omega
  · intro y x h
    rw [hvp, blk3]
    congr 1; omega
  · intro y x
    rw [hvc, blk4]
    congr 1; omega
  · intro r k
    rw [hb, blk5]

/-- A load of a whole block reads the block where it is. -/
theorem whole_at {n k : ℕ} (i : (⟨2, ![n, k]⟩ : Shape).Idx) (a : Fin 2) : (i a).val = (![0, 0] : Fin 2 → ℕ) a + (i a).val := by
  match a with
  | ⟨0, _⟩ => exact (Nat.zero_add _).symm
  | ⟨1, _⟩ => exact (Nat.zero_add _).symm

/-- Entries at equal rows and columns are equal. -/
theorem entry_congr (X : Mat 16384 2048) (Y : Mat 16384 3072) (B : Mat 24 192) {a a' b b' d d' : ℕ} (h : a = a') (h' : b = b')
    (h'' : d = d') : entry X Y B a b d = entry X Y B a' b' d' := by
  subst h h' h''; rfl

/-- What point `t` leaves at index `y` of its block. -/
theorem point (H : Reals (argX m c) (argY m c) (argB m c)) (t : Fin cfg0.N) (y : S512x128.Idx) :
    out0_6 (grid0.coords t) (iblk m c 0 t) (iblk m c 1 t) (iblk m c 2 t) (iblk m c 3 t) (iblk m c 4 t) (iblk m c 5 t) y
      = G (argX m c) (argY m c) (argB m c) (((cfg0.win 6).blk t).view.emb y) := by
  have e0 : ((((cfg0.win 6).blk t).view.emb y) 0).val = (t.val / 96 * 8 + t.val % 8) * 512 + (y 0).val := by
    blk_simp [idx t]
  have e1 : ((((cfg0.win 6).blk t).view.emb y) 1).val = t.val / 8 % 12 * 128 + (y 1).val := by
    blk_simp [idx t]
  unfold G
  rw [e0, e1, out_eq]
  canon_tiles x h
  all_goals
    refine (congrArg _ (eq_ix2 x)).trans ?_
    refine (piece m c H t _ _ (by omega) rfl _ _ _ _ _ _ _ ?_ ?_ ?_ ?_ ?_ ?_ (x 0) (x 1)).trans ?_
    · exact fun i x => View.ld_unit_apply_of _ _ _ _ _ _ (by intro a; match a with | ⟨0, _⟩ => rfl | ⟨1, _⟩ => exact (Nat.zero_add _).symm)
    · exact fun i x => View.ld_unit_apply_of _ _ _ _ _ _ (whole_at _)
    · exact fun i x => View.ld_unit_apply_of _ _ _ _ _ _ (whole_at _)
    · exact fun i x => View.ld_unit_apply_of _ _ _ _ _ _ (whole_at _)
    · exact fun i x => View.ld_unit_apply_of _ _ _ _ _ _ (whole_at _)
    · exact fun i x => View.ld_unit_apply_of _ _ _ _ _ _ (whole_at _)
    · exact entry_congr _ _ _ (by omega) (by omega) (by omega)

/-- The kernel's result array, after the run. -/
theorem final (H : Reals (argX m c) (argY m c) (argB m c)) :
    (dats m 0 c).arrAt 6 cfg0.N = G (argX m c) (argY m c) (argB m c) := by
  refine (dats m 0 c).arrAt_eq_of_covers 6 _ (by decide +kernel) fun t _ y => ?_
  blk_simp
  rw [after0_6]
  exact point m c H t y

end Cert.KernelIdeal.Band

end
-- ==== Proof.Gathers.lean ====
module

public import proofs.«01_k».proof.Proof.Gen.ReferenceIdeal.Read
public import Idealize.ShloMosaic.Lib.KernelVsHost
public import Idealize.ShloMosaic.Lib.WordCmp
public import proofs.«01_k».proof.Proof.Target

/-! The reference's two kinds of gather and the index words that they read: the relative bias of a distance, and the
    band's keys and values out of the padded sequence. -/

@[expose] public section

set_option maxRecDepth 16384

noncomputable section

namespace Cert.ReferenceIdeal.Band

open Cert.ReferenceIdeal Cert.ReferenceIdeal.Gen Cert.ReferenceIdeal.Read Idealize.ShloMosaic Idealize.ShloMosaic.TcCoe
  Idealize.SL.Sem Cert.Band Idealize.ShloMosaic.WordCmp

/-- The gather of a head's biases reads the column that the index names, kept inside the table. -/
theorem gather_bias (x : Mat 24 192) (idx : IVec S64x576x1 32) (h : Fin 24) (i : Fin 64) (k : Fin 576) :
    Host.gather gather_S24x192_S64x576x1_S24x64x576_0_1_n_n_1_2_241 x idx (ix3 h i k)
      = rd x h.val (min (idx (ix3 i k 0)).toInt.toNat 191) := by
  unfold Host.gather
  refine rd_of x _ _ _ ?_ ?_
  · show GatherDims.start _ _ _ 0 + GatherDims.batchCoord _ _ 0 + GatherDims.offCoord _ _ 0 = _
    rw [GatherDims.batchCoord_eq_zero _ _ _ List.not_mem_nil]
    unfold GatherDims.start
    rw [dif_neg (by decide)]
    unfold GatherDims.offCoord
    rw [dif_pos (by decide)]
    show 0 + 0 + h.val = h.val
    omega
  · show GatherDims.start _ _ _ 1 + GatherDims.batchCoord _ _ 1 + GatherDims.offCoord _ _ 1 = _
    rw [GatherDims.batchCoord_eq_zero _ _ _ List.not_mem_nil, GatherDims.offCoord_eq_zero _ _ _ (by decide)]
    unfold GatherDims.start
    rw [dif_pos (by decide)]
    have e : ∀ q, gather_S24x192_S64x576x1_S24x64x576_0_1_n_n_1_2_241.siIdx (ix3 h i k) q = ix3 i k 0 := fun q => by
      funext b; refine Fin.ext ?_
      match b with
      | ⟨0, _⟩ => rfl
      | ⟨1, _⟩ => rfl
      | ⟨2, _⟩ => exact Nat.lt_one_iff.mp q.isLt
    rw [e]
    rfl

/-- The gather of the band reads the padded position that the index names, kept inside the padded sequence. -/
theorem gather_band (x : FVec Ideal S4x4608x24x64 .f32) (idx : IVec S64x576x1 32) (b : Fin 4) (c : Fin 64) (k : Fin 576)
    (h : Fin 24) (d : Fin 64) :
    Host.gather gather_S4x4608x24x64_S64x576x1_S4x64x576x24x64_034_1_n_n_1_2_412464 x idx (ix5 b c k h d)
      = x (ix4 b ⟨min (idx (ix3 c k 0)).toInt.toNat 4607, by omega⟩ h d) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ =>
    change GatherDims.start _ _ _ (0 : Fin S4x4608x24x64.rank) + 0 + GatherDims.offCoord _ _ (0 : Fin S4x4608x24x64.rank) = _
    unfold GatherDims.start
    rw [dif_neg (by decide)]
    unfold GatherDims.offCoord
    rw [dif_pos (by decide)]
    exact Nat.zero_add _
  | ⟨1, _⟩ =>
    change GatherDims.start _ _ _ (1 : Fin S4x4608x24x64.rank) + 0 + GatherDims.offCoord _ _ (1 : Fin S4x4608x24x64.rank) = _
    rw [GatherDims.offCoord_eq_zero _ _ _ (by decide)]
    unfold GatherDims.start
    rw [dif_pos (by decide)]
    have e : ∀ q, gather_S4x4608x24x64_S64x576x1_S4x64x576x24x64_034_1_n_n_1_2_412464.siIdx (ix5 b c k h d) q
        = ix3 c k 0 := fun q => by
      funext b; refine Fin.ext ?_
      match b with
      | ⟨0, _⟩ => rfl
      | ⟨1, _⟩ => rfl
      | ⟨2, _⟩ => exact Nat.lt_one_iff.mp q.isLt
    rw [e]
    rfl
  | ⟨2, _⟩ =>
    change GatherDims.start _ _ _ (2 : Fin S4x4608x24x64.rank) + 0 + GatherDims.offCoord _ _ (2 : Fin S4x4608x24x64.rank) = _
    unfold GatherDims.start
    rw [dif_neg (by decide)]
    unfold GatherDims.offCoord
    rw [dif_pos (by decide)]
    exact Nat.zero_add _
  | ⟨3, _⟩ =>
    change GatherDims.start _ _ _ (3 : Fin S4x4608x24x64.rank) + 0 + GatherDims.offCoord _ _ (3 : Fin S4x4608x24x64.rank) = _
    unfold GatherDims.start
    rw [dif_neg (by decide)]
    unfold GatherDims.offCoord
    rw [dif_pos (by decide)]
    exact Nat.zero_add _

/-- The distance word of query `i` and band position `k`, clipped and moved to the table's columns, as a number. -/
theorem clip_word : ∀ n : Fin 639,
    let w := IntOp.addi (IntOp.minsi 128#32 (IntOp.maxsi 4294967233#32 (BitVec.ofNat 32 n.val - 63#32))) 63#32
    Scalar.select (IntOp.cmpi .slt w 0#32) (IntOp.addi w 192#32) w = BitVec.ofNat 32 (min n.val 191) := by
  decide +kernel

/-- The bias index of query `i` and band position `k`. -/
theorem bias_word (i : Fin 64) (k : Fin 576) :
    val_main_v29 (F := Ideal) (ix3 i k 0) = BitVec.ofNat 32 (min (575 + i.val - k.val) 191) := by
  have e : IntOp.subi (IntOp.addi 512#32 (BitVec.ofNat 32 i.val)) (BitVec.ofNat 32 k.val)
      = BitVec.ofNat 32 (575 + i.val - k.val) - 63#32 := by
    apply BitVec.eq_of_toNat_eq
    simp only [IntOp.subi, IntOp.addi, BitVec.toNat_sub, BitVec.toNat_add, BitVec.toNat_ofNat]
    omega
  refine Eq.trans ?_ (clip_word ⟨575 + i.val - k.val, by omega⟩)
  dsimp only
  rw [← e]
  simp only [val_main_v29_apply, val_main_v28_apply, val_main_v27_apply, val_main_v26_apply, val_main_v25_apply,
    val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, val_main_call2_v0_apply, val_main_call2_v1_apply,
    val_main_call2_v2_apply, val_main_call2_v3_apply, val_main_call2_v4_apply, val_main_c_1_apply, val_main_c_2_apply,
    val_main_c_3_apply, val_main_c_4_apply, val_main_c_5_apply, val_main_c_6_apply]
  rfl

/-- Band position `k` of chunk `c` is position `64 c + k` of the padded sequence. -/
theorem band_word (j : S64x576.Idx) :
    val_main_v39 (F := Ideal) j = BitVec.ofNat 32 ((j 0).val * 64 + (j 1).val) := by
  simp only [val_main_v39_apply, val_main_v38_apply, val_main_v37_apply, val_main_v36_apply, val_main_v35_apply,
    val_main_v34_apply, val_main_v33_apply, val_main_v32_apply, val_main_v31_apply, val_main_c_7_apply]
  show IntOp.addi (IntOp.muli (BitVec.ofNat 32 64) (BitVec.ofNat 32 (j 0).val)) (BitVec.ofNat 32 (j 1).val) = _
  rw [muli_ofNat, addi_ofNat, Nat.mul_comm]

end Cert.ReferenceIdeal.Band

end
-- ==== Proof.Reference.lean ====
module

public import proofs.«01_k».proof.Proof.Gathers
public import Idealize.ShloMosaic.Lib.Pointwise

/-! What the reference computes: the array `G` of `Target`, read off its operations one after another. -/

@[expose] public section

set_option maxRecDepth 16384

noncomputable section

namespace Cert.ReferenceIdeal.Band

open Cert.ReferenceIdeal Cert.ReferenceIdeal.Gen Cert.ReferenceIdeal.Read Idealize.ShloMosaic Idealize.ShloMosaic.TcCoe
  Idealize.SL.Sem Cert.Band Idealize.ShloMosaic.WordCmp

variable (X : Mat 16384 2048) (Y : Mat 16384 3072) (B : Mat 24 192)

/-- The queries, chunk by chunk and head by head. -/
theorem q_at (j : S4x64x64x24x64.Idx) :
    val_main_v9 (F := Ideal) X j
      = rd X (((j 0).val * 64 + (j 1).val) * 64 + (j 2).val) ((j 3).val * 64 + (j 4).val) := by
  rw [val_main_v9_apply, val_main_v2_apply, val_main_v1_apply, val_main_v0_apply]
  obtain ⟨h0, h1, h2, h3, h4⟩ : (j 0).val < 4 ∧ (j 1).val < 64 ∧ (j 2).val < 64 ∧ (j 3).val < 24 ∧ (j 4).val < 64 :=
    ⟨(j 0).isLt, (j 1).isLt, (j 2).isLt, (j 3).isLt, (j 4).isLt⟩
  refine rd_of X _ _ _ ?_ ?_
  · show ((((((((j 0).val * 64 + (j 1).val) * 64 + (j 2).val) * 24 + (j 3).val) * 64 + (j 4).val) / 6291456 * 4096
      + (((((j 0).val * 64 + (j 1).val) * 64 + (j 2).val) * 24 + (j 3).val) * 64 + (j 4).val) / 1536 % 4096) * 24
      + (((((j 0).val * 64 + (j 1).val) * 64 + (j 2).val) * 24 + (j 3).val) * 64 + (j 4).val) / 64 % 24) * 64
      + (((((j 0).val * 64 + (j 1).val) * 64 + (j 2).val) * 24 + (j 3).val) * 64 + (j 4).val) % 64) / 1536 = _
    omega
  · show ((((((((j 0).val * 64 + (j 1).val) * 64 + (j 2).val) * 24 + (j 3).val) * 64 + (j 4).val) / 6291456 * 4096
      + (((((j 0).val * 64 + (j 1).val) * 64 + (j 2).val) * 24 + (j 3).val) * 64 + (j 4).val) / 1536 % 4096) * 24
      + (((((j 0).val * 64 + (j 1).val) * 64 + (j 2).val) * 24 + (j 3).val) * 64 + (j 4).val) / 64 % 24) * 64
      + (((((j 0).val * 64 + (j 1).val) * 64 + (j 2).val) * 24 + (j 3).val) * 64 + (j 4).val) % 64) % 1536 = _
    omega

/-- The shared keys, sequence by sequence and head by head. -/
theorem k_at (j : S4x4096x24x64.Idx) :
    val_main_v5 (F := Ideal) Y j = rd Y ((j 0).val * 4096 + (j 1).val) ((j 2).val * 64 + (j 3).val) := by
  rw [val_main_v5_apply, val_main_v4_apply, val_main_v3_apply]
  obtain ⟨h0, h1, h2, h3⟩ : (j 0).val < 4 ∧ (j 1).val < 4096 ∧ (j 2).val < 24 ∧ (j 3).val < 64 :=
    ⟨(j 0).isLt, (j 1).isLt, (j 2).isLt, (j 3).isLt⟩
  refine rd_of Y _ _ _ ?_ ?_
  · show ((((j 0).val * 4096 + (j 1).val) * 24 + (j 2).val) * 64 + (j 3).val) / 1536 = _
    omega
  · show ((((j 0).val * 4096 + (j 1).val) * 24 + (j 2).val) * 64 + (j 3).val) % 1536 = _
    omega

/-- The shared values, sequence by sequence and head by head. -/
theorem v_at (j : S4x4096x24x64.Idx) :
    val_main_v8 (F := Ideal) Y j = rd Y ((j 0).val * 4096 + (j 1).val) (1536 + ((j 2).val * 64 + (j 3).val)) := by
  rw [val_main_v8_apply, val_main_v7_apply, val_main_v6_apply]
  obtain ⟨h0, h1, h2, h3⟩ : (j 0).val < 4 ∧ (j 1).val < 4096 ∧ (j 2).val < 24 ∧ (j 3).val < 64 :=
    ⟨(j 0).isLt, (j 1).isLt, (j 2).isLt, (j 3).isLt⟩
  refine rd_of Y _ _ _ ?_ ?_
  · show ((((j 0).val * 4096 + (j 1).val) * 24 + (j 2).val) * 64 + (j 3).val) / 1536 = _
    omega
  · show 1536 + ((((j 0).val * 4096 + (j 1).val) * 24 + (j 2).val) * 64 + (j 3).val) % 1536 = _
    omega

/-- A sequence behind 512 positions of padding. -/
theorem pad_at (x : FVec Ideal S4x4096x24x64 .f32) (v : FVec Ideal S_ .f32) (b : Fin 4) (p : Fin 4608) (h : Fin 24)
    (d : Fin 64) :
    pad S4x4608x24x64 ![0, 512, 0, 0] ![0, 0, 0, 0] ![0, 0, 0, 0] x v pads_S4x4096x24x64_S4x4608x24x64_000_51200_000_000 h_S_
        (ix4 b p h d)
      = if hp : 512 ≤ p.val then x (ix4 b ⟨p.val - 512, by omega⟩ h d) else v (Shape.Idx.first h_S_) := by
  split
  · rename_i hp
    refine pad_apply_of_inside _ _ _ x v _ _ _ _ fun a => ?_
    match a with
    | ⟨0, _⟩ => show b.val = 0 + b.val * (0 + 1); omega
    | ⟨1, _⟩ => show p.val = 512 + (p.val - 512) * (0 + 1); omega
    | ⟨2, _⟩ => show h.val = 0 + h.val * (0 + 1); omega
    | ⟨3, _⟩ => show d.val = 0 + d.val * (0 + 1); omega
  · rename_i hp
    refine pad_apply_of_not_inside _ _ _ x v _ _ _ 1 fun hin => hp ?_
    exact hin.1

/-- An index word below 4608 is kept by the gather. -/
theorem toInt_word (n : ℕ) (h : n < 4608) : min (BitVec.ofNat 32 n).toInt.toNat 4607 = n := by
  have e : (BitVec.ofNat 32 n).toInt = (n : ℤ) := by
    rw [BitVec.toInt_eq_toNat_of_lt] <;> rw [BitVec.toNat_ofNat] <;> omega
  rw [e]; omega

/-- The band's index words are not negative, so that the wrap leaves them. -/
theorem wrap_word (n : ℕ) (h : n < 4608) (w : BitVec 32) :
    Scalar.select (IntOp.cmpi .slt (BitVec.ofNat 32 n) 0#32) w (BitVec.ofNat 32 n) = BitVec.ofNat 32 n := by
  refine select_of_eq_zero ?_ _ _
  exact (cmpi_slt_ofNat_eq_zero_iff (w := 32) (a := n) (b := 0) (by omega) (by omega)).mpr (by omega)

/-- The words of the keys' gather. -/
theorem k_word (c : Fin 64) (k : Fin 576) :
    val_main_v45 (F := Ideal) (ix3 c k 0) = BitVec.ofNat 32 (c.val * 64 + k.val) := by
  rw [val_main_v45_apply, val_main_v44_apply, val_main_v41_apply, val_main_v40_apply, val_main_c_8_apply, band_word]
  exact wrap_word (c.val * 64 + k.val) (by omega) _

/-- The words of the values' gather. -/
theorem v_word (c : Fin 64) (k : Fin 576) :
    val_main_v52 (F := Ideal) (ix3 c k 0) = BitVec.ofNat 32 (c.val * 64 + k.val) := by
  rw [val_main_v52_apply, val_main_v51_apply, val_main_v48_apply, val_main_v47_apply, val_main_c_10_apply, band_word]
  exact wrap_word (c.val * 64 + k.val) (by omega) _

/-- The zero of the padding. -/
theorem zero_word : (FloatOps.sitofp .f32 (0#32) : Ideal .f32) = (0 : EReal) := by
  show (((0#32 : BitVec 32).toInt : ℝ) : EReal) = 0
  simp

/-- The band of keys. -/
theorem kb_at (b : Fin 4) (c : Fin 64) (k : Fin 576) (h : Fin 24) (d : Fin 64) :
    val_main_v46 (F := Ideal) Y (ix5 b c k h d)
      = if 512 ≤ c.val * 64 + k.val then rd Y (b.val * 4096 + (c.val * 64 + k.val - 512)) (h.val * 64 + d.val) else 0 := by
  unfold val_main_v46 val_main_v10
  refine (gather_band _ _ b c k h d).trans ?_
  rw [pad_at]
  have e : min (val_main_v45 (F := Ideal) (ix3 c k 0)).toInt.toNat 4607 = c.val * 64 + k.val := by
    rw [k_word, toInt_word _ (by omega)]
  by_cases hp : 512 ≤ c.val * 64 + k.val
  · rw [dif_pos (by show 512 ≤ min _ _; rw [e]; exact hp), if_pos hp, k_at]
    exact congrArg (fun n => rd Y (b.val * 4096 + (n - 512)) (h.val * 64 + d.val)) e
  · rw [dif_neg (by show ¬ 512 ≤ min _ _; rw [e]; exact hp), if_neg hp]
    exact zero_word

/-- The band of values. -/
theorem vb_at (b : Fin 4) (c : Fin 64) (k : Fin 576) (h : Fin 24) (d : Fin 64) :
    val_main_v53 (F := Ideal) Y (ix5 b c k h d)
      = if 512 ≤ c.val * 64 + k.val then rd Y (b.val * 4096 + (c.val * 64 + k.val - 512)) (1536 + (h.val * 64 + d.val))
        else 0 := by
  unfold val_main_v53 val_main_v11
  refine (gather_band _ _ b c k h d).trans ?_
  rw [pad_at]
  have e : min (val_main_v52 (F := Ideal) (ix3 c k 0)).toInt.toNat 4607 = c.val * 64 + k.val := by
    rw [v_word, toInt_word _ (by omega)]
  by_cases hp : 512 ≤ c.val * 64 + k.val
  · rw [dif_pos (by show 512 ≤ min _ _; rw [e]; exact hp), if_pos hp, v_at]
    exact congrArg (fun n => rd Y (b.val * 4096 + (n - 512)) (1536 + (h.val * 64 + d.val))) e
  · rw [dif_neg (by show ¬ 512 ≤ min _ _; rw [e]; exact hp), if_neg hp]
    exact zero_word

/-- The bias of a head, a query and a band position. -/
theorem b_at (h : Fin 24) (i : Fin 64) (k : Fin 576) :
    val_main_v30 (F := Ideal) B (ix3 h i k) = rd B h.val (min (575 + i.val - k.val) 191) := by
  unfold val_main_v30
  refine (gather_bias B _ h i k).trans ?_
  rw [bias_word]
  have e : (BitVec.ofNat 32 (min (575 + i.val - k.val) 191)).toInt = (min (575 + i.val - k.val) 191 : ℕ) := by
    rw [BitVec.toInt_eq_toNat_of_lt] <;> rw [BitVec.toNat_ofNat] <;> omega
  rw [e]
  congr 1
  omega

/-- The bias that a score takes. -/
theorem bias_entry (b : Fin 4) (c : Fin 64) (h : Fin 24) (i : Fin 64) (k : Fin 576) :
    idx_main_v57 (idx_main_v58 (ix5 b c h i k)) = ix3 h i k := by
  funext a
  match a with
  | ⟨0, _⟩ => rfl
  | ⟨1, _⟩ => rfl
  | ⟨2, _⟩ => rfl

/-- The queries that a score sums over. -/
theorem query_entry (b : Fin 4) (c : Fin 64) (h : Fin 24) (i : Fin 64) (k : Fin 576) (d : Fin 64) :
    lidx_main_v54 (ix5 b c h i k) d = ix5 b c i h d := by
  funext a
  match a with
  | ⟨0, _⟩ => rfl
  | ⟨1, _⟩ => rfl
  | ⟨2, _⟩ => rfl
  | ⟨3, _⟩ => rfl
  | ⟨4, _⟩ => rfl

/-- The keys that a score sums over. -/
theorem key_entry (b : Fin 4) (c : Fin 64) (h : Fin 24) (i : Fin 64) (k : Fin 576) (d : Fin 64) :
    ridx_main_v54 (ix5 b c h i k) d = ix5 b c k h d := by
  funext a
  match a with
  | ⟨0, _⟩ => rfl
  | ⟨1, _⟩ => rfl
  | ⟨2, _⟩ => rfl
  | ⟨3, _⟩ => rfl
  | ⟨4, _⟩ => rfl

/-- The scale of the scores. -/
theorem scale_word : (FloatOps.ofBits .f32 1040187392#32 : Ideal .f32) = ((1 / 8 : ℝ) : EReal) := eighth_f32

/-- The masked score. -/
theorem s_at (b : Fin 4) (c : Fin 64) (h : Fin 24) (i : Fin 64) (k : Fin 576) :
    val_main_v63 (F := Ideal) X Y B (ix5 b c h i k) = score X Y B ((b.val * 64 + c.val) * 64) i.val h.val k := by
  have em : ((b.val * 64 + c.val) * 64) % 4096 = c.val * 64 := by omega
  have hc : val_main_call3_v1 (F := Ideal) (ix5 b c h i k) = BitVec.ofBool (decide (512 ≤ c.val * 64 + k.val)) := by
    rw [val_main_call3_v1_apply, val_main_v62_apply, val_main_v61_apply, val_main_v60_apply, val_main_c_12_apply, band_word]
    exact cmpi_sge_ofNat (w := 32) (a := c.val * 64 + k.val) (b := 512) (by omega) (by omega)
  rw [val_main_v63_apply, hc, select_ofBool]
  unfold score
  rw [em]
  by_cases hp : 512 ≤ c.val * 64 + k.val
  · rw [if_pos (decide_eq_true hp), if_pos hp, val_main_v59_apply, val_main_v58_apply, val_main_v57_apply, val_main_v56_apply,
      val_main_v55_apply, val_main_cst_apply, val_main_v54_apply]
    simp only [bias_entry, query_entry, key_entry, b_at, kb_at, if_pos hp, q_at, scale_word]
    have ek : b.val * 4096 + (c.val * 64 + k.val - 512) = (b.val * 64 + c.val) * 64 + k.val - 512 := by omega
    rw [ek]
    rfl
  · rw [if_neg (by simpa using hp), if_neg hp, val_main_call3_v2_apply, val_main_call3_v0_apply, val_main_cst_13_apply]
    exact bot_f32

/-- The row's maximum, started at minus infinity. -/
theorem m_at (b : Fin 4) (c : Fin 64) (h : Fin 24) (i : Fin 64) :
    val_main_v66 (F := Ideal) X Y B (ix4 b c h i)
      = Finset.univ.fold max ⊥ (score X Y B ((b.val * 64 + c.val) * 64) i.val h.val) := by
  have e : val_main_v64 (F := Ideal) X Y B (ix4 b c h i)
      = Finset.univ.fold max ⊥ (score X Y B ((b.val * 64 + c.val) * 64) i.val h.val) := by
    unfold val_main_v64
    pointwise
    rw [funext fun k => s_at X Y B b c h i k]
    exact congrArg (fun z => Finset.univ.fold max z _) bot_f32
  rw [val_main_v66_apply, e, val_main_v65_apply, val_main_cst_15_apply]
  show max (Ideal.ofBits .f32 4286578688#32) _ = _
  rw [bot_f32]
  exact max_eq_right bot_le

/-- The row of an entry of the scores, where the maxima are broadcast. -/
theorem row_max (b : Fin 4) (c : Fin 64) (h : Fin 24) (i : Fin 64) (k : Fin 576) :
    idx_main_v67 (idx_main_v68 (ix5 b c h i k)) = ix4 b c h i := by
  funext a
  match a with
  | ⟨0, _⟩ => rfl
  | ⟨1, _⟩ => rfl
  | ⟨2, _⟩ => rfl
  | ⟨3, _⟩ => rfl

/-- The row of an entry of the scores, where the sums are broadcast. -/
theorem row_sum (b : Fin 4) (c : Fin 64) (h : Fin 24) (i : Fin 64) (k : Fin 576) :
    idx_main_v72 (idx_main_v73 (ix5 b c h i k)) = ix4 b c h i := by
  funext a
  match a with
  | ⟨0, _⟩ => rfl
  | ⟨1, _⟩ => rfl
  | ⟨2, _⟩ => rfl
  | ⟨3, _⟩ => rfl

/-- The entries of a row that its sum runs over. -/
theorem row_entry (b : Fin 4) (c : Fin 64) (h : Fin 24) (i : Fin 64) (k : Fin 576) :
    idx_main_v71 (ix4 b c h i) k = ix5 b c h i k := by
  funext a
  match a with
  | ⟨0, _⟩ => rfl
  | ⟨1, _⟩ => rfl
  | ⟨2, _⟩ => rfl
  | ⟨3, _⟩ => rfl
  | ⟨4, _⟩ => rfl

/-- The values that an output entry sums over. -/
theorem value_entry (b : Fin 4) (c : Fin 64) (h : Fin 24) (d i : Fin 64) (k : Fin 576) :
    lidx_main_v75 (ix5 b c h d i) k = ix5 b c k h d := by
  funext a
  match a with
  | ⟨0, _⟩ => rfl
  | ⟨1, _⟩ => rfl
  | ⟨2, _⟩ => rfl
  | ⟨3, _⟩ => rfl
  | ⟨4, _⟩ => rfl

/-- The weights that an output entry sums over. -/
theorem weight_entry (b : Fin 4) (c : Fin 64) (h : Fin 24) (d i : Fin 64) (k : Fin 576) :
    ridx_main_v75 (ix5 b c h d i) k = ix5 b c h i k := by
  funext a
  match a with
  | ⟨0, _⟩ => rfl
  | ⟨1, _⟩ => rfl
  | ⟨2, _⟩ => rfl
  | ⟨3, _⟩ => rfl
  | ⟨4, _⟩ => rfl

/-- The exponential of a score, less the row's maximum. -/
theorem e_at (b : Fin 4) (c : Fin 64) (h : Fin 24) (i : Fin 64) (k : Fin 576) :
    val_main_v70 (F := Ideal) X Y B (ix5 b c h i k)
      = expo (score X Y B ((b.val * 64 + c.val) * 64) i.val h.val) k := by
  rw [val_main_v70_apply, val_main_v69_apply, s_at, val_main_v68_apply, val_main_v67_apply, row_max, m_at]
  rfl

/-- The row's sum of exponentials. -/
theorem sum_at (b : Fin 4) (c : Fin 64) (h : Fin 24) (i : Fin 64) :
    val_main_v71 (F := Ideal) X Y B (ix4 b c h i)
      = ∑ k, expo (score X Y B ((b.val * 64 + c.val) * 64) i.val h.val) k := by
  rw [val_main_v71_apply, val_main_cst_16_apply]
  have z : (FloatOps.ofBits .f32 (0#32) : Ideal .f32) = (0 : EReal) := by
    show Ideal.ofBits .f32 0#32 = 0
    simp [Ideal.ofBits, Ideal.ieee]
  refine (congrArg (· + _) z).trans ((zero_add _).trans ?_)
  exact Finset.sum_congr rfl fun k _ => by rw [row_entry, e_at]

/-- The attention of one query, at one channel of a head. -/
theorem o_at (b : Fin 4) (c : Fin 64) (h : Fin 24) (d i : Fin 64) :
    val_main_v75 (F := Ideal) X Y B (ix5 b c h d i)
      = entry X Y B ((b.val * 64 + c.val) * 64) i.val (h.val * 64 + d.val) := by
  rw [val_main_v75_apply]
  simp only [value_entry, weight_entry]
  unfold entry
  have eh : (h.val * 64 + d.val) / 64 = h.val := by omega
  have em : ((b.val * 64 + c.val) * 64) % 4096 = c.val * 64 := by omega
  rw [eh, em]
  refine Finset.sum_congr rfl fun k _ => congr (congrArg _ ((vb_at Y b c k h d).trans ?_)) ?_
  · split
    · congr 1; omega
    · rfl
  · rw [val_main_v74_apply, val_main_v73_apply, val_main_v72_apply, row_sum, e_at, sum_at]
    rfl

/-- The reference's result. -/
theorem result_at : val_main_v78 (F := Ideal) X Y B = G X Y B := by
  funext j
  rw [val_main_v78_apply, val_main_v77_apply, val_main_v76_apply]
  obtain ⟨h0, h1⟩ : (j 0).val < 16384 ∧ (j 1).val < 1536 := ⟨(j 0).isLt, (j 1).isLt⟩
  have e : idx_main_v76 (idx_main_v77 j) = ix5 (⟨((j 0).val * 1536 + (j 1).val) / 6291456, by omega⟩ : Fin 4)
      (⟨((j 0).val * 1536 + (j 1).val) / 98304 % 64, by omega⟩ : Fin 64)
      (⟨((j 0).val * 1536 + (j 1).val) / 64 % 24, by omega⟩ : Fin 24)
      (⟨((j 0).val * 1536 + (j 1).val) % 64, by omega⟩ : Fin 64)
      (⟨((j 0).val * 1536 + (j 1).val) / 1536 % 64, by omega⟩ : Fin 64) := by
    funext a
    match a with
    | ⟨0, _⟩ => rfl
    | ⟨1, _⟩ => rfl
    | ⟨2, _⟩ => rfl
    | ⟨3, _⟩ => rfl
    | ⟨4, _⟩ => rfl
  rw [e, o_at]
  unfold G
  have a0 : (((j 0).val * 1536 + (j 1).val) / 6291456 * 64 + ((j 0).val * 1536 + (j 1).val) / 98304 % 64) * 64
      = (j 0).val / 64 * 64 := by omega
  have a1 : ((j 0).val * 1536 + (j 1).val) / 1536 % 64 = (j 0).val % 64 := by omega
  have a2 : ((j 0).val * 1536 + (j 1).val) / 64 % 24 * 64 + ((j 0).val * 1536 + (j 1).val) % 64 = (j 1).val := by omega
  show entry X Y B ((((j 0).val * 1536 + (j 1).val) / 6291456 * 64 + ((j 0).val * 1536 + (j 1).val) / 98304 % 64) * 64)
    (((j 0).val * 1536 + (j 1).val) / 1536 % 64)
    (((j 0).val * 1536 + (j 1).val) / 64 % 24 * 64 + ((j 0).val * 1536 + (j 1).val) % 64) = _
  rw [a0, a1, a2]

end Cert.ReferenceIdeal.Band

end
-- ==== Proof.Finite.lean ====
module

public import proofs.«01_k».proof.Pre_scores_are_finite
public import proofs.«01_k».proof.Proof.Target
public import Idealize.ShloMosaic.Lib.Pointwise

/-! The precondition says that the queries, the shared keys and the relative biases are real numbers. -/

@[expose] public section

set_option maxRecDepth 16384

noncomputable section

namespace Cert.Band

open Idealize.ShloMosaic

/-- The shape conditions of the precondition's operations. -/
theorem facts : Cert.Pre_scores_are_finite.Facts where
  slices_S16384x2048_S16384x1536_0_0 := by decide
  bitsLt_bf16_f32 := by decide
  bcast_S_S16384x1536 := by decide
  slices_S16384x3072_S16384x1536_0_0 := by decide
  bcast_S_S24x192 := by decide

/-- A value whose absolute value is below infinity is a real number. -/
theorem real_of_abs (x : EReal) (h : Ideal.cmp .olt (max x (-x)) (Ideal.ofBits .f32 2139095040#32) = 1#1) : IsReal x := by
  rw [top_f32] at h
  induction x with
  | bot => simp [Ideal.cmp] at h
  | top => simp [Ideal.cmp] at h
  | coe r => exact ⟨r, rfl⟩

/-- The three finiteness bits are the hypothesis of the proof. -/
theorem reals_of_pre [Cert.Pre_scores_are_finite.Facts] (X : Mat 16384 2048) (Y : Mat 16384 3072) (B : Mat 24 192)
    (hX : (Cert.Pre_scores_are_finite.fn (F := Ideal) X Y B).1 = fun _ => 1#1)
    (hY : (Cert.Pre_scores_are_finite.fn (F := Ideal) X Y B).2.1 = fun _ => 1#1)
    (hB : (Cert.Pre_scores_are_finite.fn (F := Ideal) X Y B).2.2 = fun _ => 1#1) : Reals X Y B where
  q r c hc := by
    unfold rd
    split
    · rename_i h
      have e := congrFun hX (ix2 ⟨r, h.1⟩ ⟨c, hc⟩)
      pointwise [Cert.Pre_scores_are_finite.fn] at e
      exact real_of_abs _ e
    · exact IsReal.zero
  k r c hc := by
    unfold rd
    split
    · rename_i h
      have e := congrFun hY (ix2 ⟨r, h.1⟩ ⟨c, hc⟩)
      pointwise [Cert.Pre_scores_are_finite.fn] at e
      exact real_of_abs _ e
    · exact IsReal.zero
  b r c := by
    unfold rd
    split
    · rename_i h
      have e := congrFun hB (ix2 ⟨r, h.1⟩ ⟨c, h.2⟩)
      pointwise [Cert.Pre_scores_are_finite.fn] at e
      exact real_of_abs _ e
    · exact IsReal.zero

end Cert.Band

end
-- ==== Proof.NormProduct.lean ====
/-
The normalised product: rows of one matrix, divided by their root mean square and scaled entry by entry, times another
matrix. This is the function that the two programs of each projection are shown to compute.
-/
module

public import proofs.«01_k».proof.Proof.Target

set_option maxRecDepth 16384

@[expose] public section

noncomputable section

namespace Cert.NormProduct

open Idealize.ShloMosaic Cert.Band

/-- A vector of extended reals, as the programs hold it. -/
abbrev Row (n : ℕ) : Type := (⟨1, ![n]⟩ : Shape).Idx → EReal

/-- Entry `k` of the row `x`, divided by the row's root mean square (a small constant is added under the root) and scaled by
    `g`. The two constants are the float words of 2048 and of the small constant. -/
def normed (x g : Fin 2048 → EReal) (k : Fin 2048) : EReal :=
  x k * Ideal.rsqrt (Ideal.div (∑ l, x l * x l) (Ideal.ofBits .f32 0x45000000#32) + Ideal.ofBits .f32 0x358637BD#32) * g k

/-- The normalised rows of a matrix. -/
def rows {r : ℕ} (X : Mat r 2048) (g : Row 2048) (j : (⟨2, ![r, 2048]⟩ : Shape).Idx) : EReal :=
  normed (fun l => X (ix2 (j 0) l)) (fun l => g (ix1 l)) (j 1)

/-- The normalised rows times a matrix. -/
def G {r n : ℕ} (X : Mat r 2048) (g : Row 2048) (W : Mat 2048 n) (j : (⟨2, ![r, n]⟩ : Shape).Idx) : EReal :=
  ∑ k : Fin 2048, rows X g (ix2 (j 0) k) * W (ix2 k (j 1))

/-- A value that each run of `J` steps sets at its first step, to something that has the property of the run, and then keeps:
    at every step it has the property of the step's run. -/
theorem carried {N : ℕ} {α : Type} (J : ℕ) (f : (n : ℕ) → n < N → α) (Q : ℕ → α → Prop)
    (first : ∀ n h, n % J = 0 → Q (n / J) (f n h))
    (next : ∀ n (h : n + 1 < N), ¬ (n + 1) % J = 0 → f (n + 1) h = f n (Nat.lt_of_succ_lt h)) :
    ∀ n h, Q (n / J) (f n h)
  | 0, h => first 0 h (Nat.zero_mod J)
  | n + 1, h => by
    by_cases hJ : (n + 1) % J = 0
    · exact first _ h hJ
    · have e : (n + 1) / J = n / J := by
        rw [Nat.succ_div, if_neg fun hd => hJ (Nat.mod_eq_zero_of_dvd hd), Nat.add_zero]
      rw [next n h hJ, e]
      exact carried J f Q first next n _

end Cert.NormProduct
-- ==== Proof.Shared.lean ====
module

public import proofs.«01_k».proof.Proof.NormProduct
public import proofs.«01_k».proof.Proof.Gen.Kernel2Ideal.Value
public import Idealize.ShloMosaic.Lib.Pipeline.ValueKit
public import Idealize.ShloMosaic.Lib.StableHlo.ReadAt

/-! What the projection of the shared keys and values leaves in its result array: the normalised rows of its first argument,
    scaled by the second, times the third. -/

@[expose] public section

set_option maxRecDepth 16384

noncomputable section

namespace Cert.Kernel2Ideal.Shared

open Cert.Kernel2Ideal Cert.Kernel2Ideal.Gen Idealize.ShloMosaic Idealize.ShloMosaic.TcCoe Idealize.SL.Sem Cert.Band Cert.NormProduct

variable (m : (ℓ : Loc nD τ sig) → Buf (Elt Ideal) ℓ) (c : Dev nD)

/-- The rows to normalise, as the run finds them. -/
abbrev argX : Mat 16384 2048 := m ((c : Thread nD τ).loc main_arg0)
/-- Their scale. -/
abbrev argG : Row 2048 := m ((c : Thread nD τ).loc main_arg1)
/-- The weights. -/
abbrev argW : Mat 2048 3072 := m ((c : Thread nD τ).loc main_arg2)

/-- What the body stores in its scratch buffer: the normalised rows of the block. -/
theorem pay1_at (x : Vec Ideal S1024x2048 .f32) (g : Vec Ideal S1x2048 .f32) (j : S1024x2048.Idx) :
    k0_pay1 (F := Ideal) x g j = normed (fun l => x (ix2 (j 0) l)) (fun l => g (ix2 0 l)) (j 1) := by
  pointwise [k0_pay1, normed]

/-- What the body stores in its result block: the scratch buffer times the block of the weights. -/
theorem pay2_at (h : Vec Ideal S1024x2048 .bf16) (w : Vec Ideal S2048x1024 .bf16) (j : S1024x1024.Idx) :
    k0_pay2 (F := Ideal) h w j = ∑ k : Fin 2048, h (ix2 (j 0) k) * w (ix2 k (j 1)) := by
  pointwise [k0_pay2]

/-- Which block each window stages at point `t`. -/
theorem idx : ∀ t : Fin cfg0.N,
    win0_0.index t = ![t.val / 3, 0] ∧ win0_1.index t = ![0, 0]
    ∧ win0_2.index t = ![0, t.val % 3] ∧ win0_3.index t = ![t.val / 3, t.val % 3] :=
  (by decide +kernel : ∀ t : Fin grid0.N, _)

theorem blk0 (t : Fin cfg0.N) (y : Fin 1024) (l : Fin 2048) (r : Fin 16384) (hr : r.val = t.val / 3 * 1024 + y.val) :
    (iblk m c 0 t : Vec Ideal S1024x2048 .f32) (ix2 y l) = argX m c (ix2 r l) := by
  show V m c main_arg0 (((cfg0.win 0).blk t).view.emb (ix2 y l)) = _
  rw [V_main_arg0]
  refine congrArg (argX m c) ?_
  blk_ext [idx t]

theorem blk1 (t : Fin cfg0.N) (l : Fin 2048) :
    (iblk m c 1 t : Vec Ideal S1x2048 .f32) (ix2 0 l) = argG m c (ix1 l) := by
  show V m c main_v1 (((cfg0.win 1).blk t).view.emb (ix2 0 l)) = _
  simp only [V]
  after_reads_simp
  pointwise
  refine congrArg (argG m c) ?_
  blk_ext [idx t]

theorem blk2 (t : Fin cfg0.N) (k : Fin 2048) (y : Fin 1024) (q : Fin 3072) (hq : q.val = t.val % 3 * 1024 + y.val) :
    (iblk m c 2 t : Vec Ideal S2048x1024 .bf16) (ix2 k y) = argW m c (ix2 k q) := by
  show V m c main_v0 (((cfg0.win 2).blk t).view.emb (ix2 k y)) = _
  simp only [V]
  after_reads_simp
  pointwise
  refine congrArg (argW m c) ?_
  blk_ext [idx t]

/-- The scratch buffer after the first point of a block of rows. -/
theorem first (t : Fin cfg0.N) (h : t.val % 3 = 0) (y : Fin 1024) (l : Fin 2048) (r : Fin 16384)
    (hr : r.val = t.val / 3 * 1024 + y.val) :
    (outsAt0 m c t.val t.isLt).2 (ix2 y l) = rows (argX m c) (argG m c) (ix2 r l) := by
  rw [outsAt0_A m c t h]
  frame_out
  rw [pay1_at]
  exact congrArg₂ (fun a b => normed a b l) (funext fun k => blk0 m c t y k r hr) (funext fun k => blk1 m c t k)

/-- The other points leave the scratch buffer alone. -/
theorem next (n : ℕ) (hn : n + 1 < cfg0.N) (h : ¬ (n + 1) % 3 = 0) :
    (outsAt0 m c (n + 1) hn).2 = (outsAt0 m c n (Nat.lt_of_succ_lt hn)).2 := by
  rw [outsAt0_B m c ⟨n + 1, hn⟩ h]
  dsimp only
  unfold sout0_B_0
  rfl

/-- The scratch buffer after point `n`: the normalised rows of the block that the point is in. -/
theorem scratch (n : ℕ) (hn : n < cfg0.N) (y : Fin 1024) (l : Fin 2048) (r : Fin 16384) (hr : r.val = n / 3 * 1024 + y.val) :
    (outsAt0 m c n hn).2 (ix2 y l) = rows (argX m c) (argG m c) (ix2 r l) :=
  carried 3 (fun n h => (outsAt0 m c n h).2)
    (fun b v => ∀ r : Fin 16384, r.val = b * 1024 + y.val → v (ix2 y l) = rows (argX m c) (argG m c) (ix2 r l))
    (fun n h h0 r hr => first m c ⟨n, h⟩ h0 y l r hr) (next m c) n hn r hr

/-- The result block after point `t`: the scratch buffer, as the point leaves it, times the block of the weights. -/
theorem block (t : Fin cfg0.N) (j : S1024x1024.Idx) :
    (outsAt0 m c t.val t.isLt).1 j = ∑ k : Fin 2048,
      ((outsAt0 m c t.val t.isLt).2 (ix2 (j 0) k) : EReal) * (iblk m c 2 t : Vec Ideal S2048x1024 .bf16) (ix2 k (j 1)) := by
  by_cases h : t.val % 3 = 0
  · rw [outsAt0_A m c t h]
    frame_out
    exact pay2_at _ _ j
  · rw [outsAt0_B m c t h]
    frame_out
    rw [(Memref.isWhole_whole cc0_scratch0).read_unread]
    exact pay2_at _ _ j

/-- The result array, after the run. -/
theorem final : (dats m 0 c).arrAt 3 cfg0.N = NormProduct.G (argX m c) (argG m c) (argW m c) := by
  refine (dats m 0 c).arrAt_eq_of_covers 3 _ (by decide +kernel) fun t _ y => ?_
  blk_simp
  rw [after0_3, block]
  have e0 : ((((cfg0.win 3).blk t).view.emb y) 0).val = t.val / 3 * 1024 + (y 0).val := by
    blk_simp [idx t]
  have e1 : ((((cfg0.win 3).blk t).view.emb y) 1).val = t.val % 3 * 1024 + (y 1).val := by
    blk_simp [idx t]
  refine Fin.sum_fin_congr fun k => ?_
  exact congrArg₂ (· * ·) (scratch m c t.val t.isLt _ k _ e0) (blk2 m c t k _ _ e1)

end Cert.Kernel2Ideal.Shared

end
-- ==== Proof.SharedReference.lean ====
module

public import proofs.«01_k».proof.Proof.NormProduct
public import proofs.«01_k».proof.Proof.Gen.Reference2Ideal.Read

/-! What the reference of the projection of the shared keys and values computes. -/

@[expose] public section

set_option maxRecDepth 16384

noncomputable section

namespace Cert.Reference2Ideal.Shared

open Cert.Reference2Ideal Cert.Reference2Ideal.Read Idealize.ShloMosaic Cert.Band Cert.NormProduct

/-- The reference's normalised rows. -/
theorem rows_at (X : Mat 16384 2048) (g : Row 2048) (j : (⟨2, ![16384, 2048]⟩ : Shape).Idx) :
    val_main_v12 (F := Ideal) X g j = rows X g j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rows, normed]

/-- The reference's result. -/
theorem result_at (X : Mat 16384 2048) (g : Row 2048) (W : Mat 2048 3072) :
    val_main_v14 (F := Ideal) X g W = G X g W := by
  funext j
  rw [val_main_v14_apply]
  refine (val_main_v13_apply X g W j).trans ?_
  refine Finset.sum_congr rfl fun k _ => ?_
  rw [rows_at]
  exact congrArg₂ (· * ·) (congrArg _ (eq_ix2 _)) (congrArg W (eq_ix2 _))

end Cert.Reference2Ideal.Shared

end
-- ==== Proof.Queries.lean ====
module

public import proofs.«01_k».proof.Proof.NormProduct
public import proofs.«01_k».proof.Proof.Gen.Kernel3Ideal.Value
public import Idealize.ShloMosaic.Lib.Pipeline.ValueKit
public import Idealize.ShloMosaic.Lib.StableHlo.ReadAt

/-! What the projection of the second layer's queries leaves in its result array: the normalised rows of its first argument,
    scaled by the second, times the third. -/

@[expose] public section

set_option maxRecDepth 16384

noncomputable section

namespace Cert.Kernel3Ideal.Queries

open Cert.Kernel3Ideal Cert.Kernel3Ideal.Gen Idealize.ShloMosaic Idealize.ShloMosaic.TcCoe Idealize.SL.Sem Cert.Band Cert.NormProduct

variable (m : (ℓ : Loc nD τ sig) → Buf (Elt Ideal) ℓ) (c : Dev nD)

/-- The rows to normalise, as the run finds them. -/
abbrev argX : Mat 16384 2048 := m ((c : Thread nD τ).loc main_arg0)
/-- Their scale. -/
abbrev argG : Row 2048 := m ((c : Thread nD τ).loc main_arg1)
/-- The weights. -/
abbrev argW : Mat 2048 2048 := m ((c : Thread nD τ).loc main_arg2)

/-- What the body stores in its scratch buffer: the normalised rows of the block. -/
theorem pay1_at (x : Vec Ideal S1024x2048 .f32) (g : Vec Ideal S1x2048 .f32) (j : S1024x2048.Idx) :
    k0_pay1 (F := Ideal) x g j = normed (fun l => x (ix2 (j 0) l)) (fun l => g (ix2 0 l)) (j 1) := by
  pointwise [k0_pay1, normed]

/-- What the body stores in its result block: the scratch buffer times the block of the weights. -/
theorem pay2_at (h : Vec Ideal S1024x2048 .bf16) (w : Vec Ideal S2048x1024 .bf16) (j : S1024x1024.Idx) :
    k0_pay2 (F := Ideal) h w j = ∑ k : Fin 2048, h (ix2 (j 0) k) * w (ix2 k (j 1)) := by
  pointwise [k0_pay2]

/-- Which block each window stages at point `t`. -/
theorem idx : ∀ t : Fin cfg0.N,
    win0_0.index t = ![t.val / 2, 0] ∧ win0_1.index t = ![0, 0]
    ∧ win0_2.index t = ![0, t.val % 2] ∧ win0_3.index t = ![t.val / 2, t.val % 2] :=
  (by decide +kernel : ∀ t : Fin grid0.N, _)

theorem blk0 (t : Fin cfg0.N) (y : Fin 1024) (l : Fin 2048) (r : Fin 16384) (hr : r.val = t.val / 2 * 1024 + y.val) :
    (iblk m c 0 t : Vec Ideal S1024x2048 .f32) (ix2 y l) = argX m c (ix2 r l) := by
  show V m c main_arg0 (((cfg0.win 0).blk t).view.emb (ix2 y l)) = _
  rw [V_main_arg0]
  refine congrArg (argX m c) ?_
  blk_ext [idx t]

theorem blk1 (t : Fin cfg0.N) (l : Fin 2048) :
    (iblk m c 1 t : Vec Ideal S1x2048 .f32) (ix2 0 l) = argG m c (ix1 l) := by
  show V m c main_v1 (((cfg0.win 1).blk t).view.emb (ix2 0 l)) = _
  simp only [V]
  after_reads_simp
  pointwise
  refine congrArg (argG m c) ?_
  blk_ext [idx t]

theorem blk2 (t : Fin cfg0.N) (k : Fin 2048) (y : Fin 1024) (q : Fin 2048) (hq : q.val = t.val % 2 * 1024 + y.val) :
    (iblk m c 2 t : Vec Ideal S2048x1024 .bf16) (ix2 k y) = argW m c (ix2 k q) := by
  show V m c main_v0 (((cfg0.win 2).blk t).view.emb (ix2 k y)) = _
  simp only [V]
  after_reads_simp
  pointwise
  refine congrArg (argW m c) ?_
  blk_ext [idx t]

/-- The scratch buffer after the first point of a block of rows. -/
theorem first (t : Fin cfg0.N) (h : t.val % 2 = 0) (y : Fin 1024) (l : Fin 2048) (r : Fin 16384)
    (hr : r.val = t.val / 2 * 1024 + y.val) :
    (outsAt0 m c t.val t.isLt).2 (ix2 y l) = rows (argX m c) (argG m c) (ix2 r l) := by
  rw [outsAt0_A m c t h]
  frame_out
  rw [pay1_at]
  exact congrArg₂ (fun a b => normed a b l) (funext fun k => blk0 m c t y k r hr) (funext fun k => blk1 m c t k)

/-- The other points leave the scratch buffer alone. -/
theorem next (n : ℕ) (hn : n + 1 < cfg0.N) (h : ¬ (n + 1) % 2 = 0) :
    (outsAt0 m c (n + 1) hn).2 = (outsAt0 m c n (Nat.lt_of_succ_lt hn)).2 := by
  rw [outsAt0_B m c ⟨n + 1, hn⟩ h]
  dsimp only
  unfold sout0_B_0
  rfl

/-- The scratch buffer after point `n`: the normalised rows of the block that the point is in. -/
theorem scratch (n : ℕ) (hn : n < cfg0.N) (y : Fin 1024) (l : Fin 2048) (r : Fin 16384) (hr : r.val = n / 2 * 1024 + y.val) :
    (outsAt0 m c n hn).2 (ix2 y l) = rows (argX m c) (argG m c) (ix2 r l) :=
  carried 2 (fun n h => (outsAt0 m c n h).2)
    (fun b v => ∀ r : Fin 16384, r.val = b * 1024 + y.val → v (ix2 y l) = rows (argX m c) (argG m c) (ix2 r l))
    (fun n h h0 r hr => first m c ⟨n, h⟩ h0 y l r hr) (next m c) n hn r hr

/-- The result block after point `t`: the scratch buffer, as the point leaves it, times the block of the weights. -/
theorem block (t : Fin cfg0.N) (j : S1024x1024.Idx) :
    (outsAt0 m c t.val t.isLt).1 j = ∑ k : Fin 2048,
      ((outsAt0 m c t.val t.isLt).2 (ix2 (j 0) k) : EReal) * (iblk m c 2 t : Vec Ideal S2048x1024 .bf16) (ix2 k (j 1)) := by
  by_cases h : t.val % 2 = 0
  · rw [outsAt0_A m c t h]
    frame_out
    exact pay2_at _ _ j
  · rw [outsAt0_B m c t h]
    frame_out
    rw [(Memref.isWhole_whole cc0_scratch0).read_unread]
    exact pay2_at _ _ j

/-- The result array, after the run. -/
theorem final : (dats m 0 c).arrAt 3 cfg0.N = NormProduct.G (argX m c) (argG m c) (argW m c) := by
  refine (dats m 0 c).arrAt_eq_of_covers 3 _ (by decide +kernel) fun t _ y => ?_
  blk_simp
  rw [after0_3, block]
  have e0 : ((((cfg0.win 3).blk t).view.emb y) 0).val = t.val / 2 * 1024 + (y 0).val := by
    blk_simp [idx t]
  have e1 : ((((cfg0.win 3).blk t).view.emb y) 1).val = t.val % 2 * 1024 + (y 1).val := by
    blk_simp [idx t]
  refine Fin.sum_fin_congr fun k => ?_
  exact congrArg₂ (· * ·) (scratch m c t.val t.isLt _ k _ e0) (blk2 m c t k _ _ e1)

end Cert.Kernel3Ideal.Queries

end
-- ==== Proof.QueriesReference.lean ====
module

public import proofs.«01_k».proof.Proof.NormProduct
public import proofs.«01_k».proof.Proof.Gen.Reference3Ideal.Read

/-! What the reference of the projection of the second layer's queries computes. -/

@[expose] public section

set_option maxRecDepth 16384

noncomputable section

namespace Cert.Reference3Ideal.Queries

open Cert.Reference3Ideal Cert.Reference3Ideal.Read Idealize.ShloMosaic Cert.Band Cert.NormProduct

/-- The reference's normalised rows. -/
theorem rows_at (X : Mat 16384 2048) (g : Row 2048) (j : (⟨2, ![16384, 2048]⟩ : Shape).Idx) :
    val_main_v12 (F := Ideal) X g j = rows X g j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rows, normed]

/-- The reference's result. -/
theorem result_at (X : Mat 16384 2048) (g : Row 2048) (W : Mat 2048 2048) :
    val_main_v14 (F := Ideal) X g W = G X g W := by
  funext j
  rw [val_main_v14_apply]
  refine (val_main_v13_apply X g W j).trans ?_
  refine Finset.sum_congr rfl fun k _ => ?_
  rw [rows_at]
  exact congrArg₂ (· * ·) (congrArg _ (eq_ix2 _)) (congrArg W (eq_ix2 _))

end Cert.Reference3Ideal.Queries

end
-- ==== Proof.OutProjection.lean ====
module

public import proofs.«01_k».proof.Proof.Target
public import proofs.«01_k».proof.Proof.Gen.Kernel5Ideal.Value
public import Idealize.ShloMosaic.Lib.Pipeline.ValueKit
public import Idealize.ShloMosaic.Lib.StableHlo.ReadAt

/-! What the output projection leaves in its result array: its first argument plus the product of the other two, side by
    side, with the weights. -/

@[expose] public section

set_option maxRecDepth 16384

noncomputable section

namespace Cert.OutProjection

open Idealize.ShloMosaic Cert.Band

/-- The sum that both programs compute: the weights' first 1536 rows belong to `S`, the other 512 to `M`. -/
def G (X : Mat 16384 2048) (S : Mat 16384 1536) (M : Mat 16384 512) (W : Mat 2048 2048)
    (j : (⟨2, ![16384, 2048]⟩ : Shape).Idx) : EReal :=
  X j + (∑ k : Fin 1536, S (ix2 (j 0) k) * W (ix2 (Fin.castLE (by omega) k) (j 1)))
    + ∑ k : Fin 512, M (ix2 (j 0) k) * W (ix2 (Fin.natAdd 1536 k) (j 1))

end Cert.OutProjection

namespace Cert.Kernel5Ideal.Out

open Cert.Kernel5Ideal Cert.Kernel5Ideal.Gen Idealize.ShloMosaic Idealize.ShloMosaic.TcCoe Idealize.SL.Sem Cert.Band

variable (m : (ℓ : Loc nD τ sig) → Buf (Elt Ideal) ℓ) (c : Dev nD)

/-- The residual stream, as the run finds it. -/
abbrev argX : Mat 16384 2048 := m ((c : Thread nD τ).loc main_arg0)
/-- The sequence mixer's output. -/
abbrev argS : Mat 16384 1536 := m ((c : Thread nD τ).loc main_arg1)
/-- The memory attention's output. -/
abbrev argM : Mat 16384 512 := m ((c : Thread nD τ).loc main_arg2)
/-- The weights. -/
abbrev argW : Mat 2048 2048 := m ((c : Thread nD τ).loc main_arg3)

/-- What the body stores in its result block. -/
theorem pay_at (x : Vec Ideal S512x1024 .f32) (s : Vec Ideal S512x1536 .bf16) (w : Vec Ideal S1536x1024 .bf16)
    (n : Vec Ideal S512x512 .bf16) (v : Vec Ideal S512x1024 .bf16) (j : S512x1024.Idx) :
    k0_pay1 (F := Ideal) x s w n v j = x j + (∑ k : Fin 1536, s (ix2 (j 0) k) * w (ix2 k (j 1)))
      + ∑ k : Fin 512, n (ix2 (j 0) k) * v (ix2 k (j 1)) := by
  pointwise [k0_pay1]

/-- Which block each window stages at point `t`. -/
theorem idx : ∀ t : Fin cfg0.N,
    win0_0.index t = ![t.val / 2, 0] ∧ win0_1.index t = ![t.val / 2, 0]
    ∧ win0_2.index t = ![0, t.val % 2] ∧ win0_3.index t = ![0, t.val % 2]
    ∧ win0_4.index t = ![t.val / 2, t.val % 2] ∧ win0_5.index t = ![t.val / 2, t.val % 2] :=
  (by decide +kernel : ∀ t : Fin grid0.N, _)

theorem blk0 (t : Fin cfg0.N) (y : Fin 512) (l : Fin 1536) (r : Fin 16384) (hr : r.val = t.val / 2 * 512 + y.val) :
    (iblk m c 0 t : Vec Ideal S512x1536 .bf16) (ix2 y l) = argS m c (ix2 r l) := by
  show V m c main_arg1 (((cfg0.win 0).blk t).view.emb (ix2 y l)) = _
  rw [V_main_arg1]
  refine congrArg (argS m c) ?_
  blk_ext [idx t]

theorem blk1 (t : Fin cfg0.N) (y : Fin 512) (l : Fin 512) (r : Fin 16384) (hr : r.val = t.val / 2 * 512 + y.val) :
    (iblk m c 1 t : Vec Ideal S512x512 .bf16) (ix2 y l) = argM m c (ix2 r l) := by
  show V m c main_arg2 (((cfg0.win 1).blk t).view.emb (ix2 y l)) = _
  rw [V_main_arg2]
  refine congrArg (argM m c) ?_
  blk_ext [idx t]

theorem blk2 (t : Fin cfg0.N) (k : Fin 1536) (y : Fin 1024) (q : Fin 2048) (hq : q.val = t.val % 2 * 1024 + y.val) :
    (iblk m c 2 t : Vec Ideal S1536x1024 .bf16) (ix2 k y) = argW m c (ix2 (Fin.castLE (by omega) k) q) := by
  show V m c main_v1 (((cfg0.win 2).blk t).view.emb (ix2 k y)) = _
  simp only [V]
  after_reads_simp
  pointwise
  refine congrArg (argW m c) ?_
  blk_ext [idx t]
  rfl

theorem blk3 (t : Fin cfg0.N) (k : Fin 512) (y : Fin 1024) (q : Fin 2048) (hq : q.val = t.val % 2 * 1024 + y.val) :
    (iblk m c 3 t : Vec Ideal S512x1024 .bf16) (ix2 k y) = argW m c (ix2 (Fin.natAdd 1536 k) q) := by
  show V m c main_v2 (((cfg0.win 3).blk t).view.emb (ix2 k y)) = _
  simp only [V]
  after_reads_simp
  pointwise
  refine congrArg (argW m c) ?_
  blk_ext [idx t]
  rfl

/-- The result array, after the run. -/
theorem final : (dats m 0 c).arrAt 5 cfg0.N = OutProjection.G (argX m c) (argS m c) (argM m c) (argW m c) := by
  refine (dats m 0 c).arrAt_eq_of_covers 5 _ (by decide +kernel) fun t _ y => ?_
  blk_simp
  rw [after0_5]
  frame_out
  have e0 : ((((cfg0.win 5).blk t).view.emb y) 0).val = t.val / 2 * 512 + (y 0).val := by
    blk_simp [idx t]
  have e1 : ((((cfg0.win 5).blk t).view.emb y) 1).val = t.val % 2 * 1024 + (y 1).val := by
    blk_simp [idx t]
  refine (pay_at _ _ _ _ _ y).trans ?_
  have h4 : (iblk m c 4 t : Vec Ideal S512x1024 .f32) y = argX m c (((cfg0.win 5).blk t).view.emb y) := by
    show V m c main_arg0 (((cfg0.win 4).blk t).view.emb y) = _
    rw [V_main_arg0]
    refine congrArg (argX m c) ?_
    blk_ext [idx t]
  refine congrArg₂ (· + ·) (congrArg₂ (· + ·) h4 ?_) ?_
  · exact Finset.sum_congr rfl fun k _ => congrArg₂ (· * ·) (blk0 m c t _ k _ e0) (blk2 m c t k _ _ e1)
  · exact Finset.sum_congr rfl fun k _ => congrArg₂ (· * ·) (blk1 m c t _ k _ e0) (blk3 m c t k _ _ e1)

end Cert.Kernel5Ideal.Out

end
-- ==== Proof.OutReference.lean ====
module

public import proofs.«01_k».proof.Proof.OutProjection
public import proofs.«01_k».proof.Proof.Gen.Reference5Ideal.Read

/-! What the reference of the output projection computes. -/

@[expose] public section

set_option maxRecDepth 16384

noncomputable section

namespace Cert.Reference5Ideal.Out

open Cert.Reference5Ideal Cert.Reference5Ideal.Read Idealize.ShloMosaic Cert.Band

/-- The two outputs side by side, in the columns of the first. -/
theorem left_at (S : Mat 16384 1536) (M : Mat 16384 512) (r : Fin 16384) (k : Fin 1536) :
    val_main_v2 (F := Ideal) S M (ix2 r (Fin.castLE (by omega) k)) = S (ix2 r k) := by
  have hk : ((Fin.castLE (by omega) k : Fin 2048) : ℕ) < 1536 := k.isLt
  pointwise [val_main_v2, val_main_v1, val_main_v0]
  exact dif_pos hk

/-- And in the columns of the second. -/
theorem right_at (S : Mat 16384 1536) (M : Mat 16384 512) (r : Fin 16384) (k : Fin 512) :
    val_main_v2 (F := Ideal) S M (ix2 r (Fin.natAdd 1536 k)) = M (ix2 r k) := by
  pointwise [val_main_v2, val_main_v1, val_main_v0]
  exact (dif_neg (by simp)).trans (congrArg (fun n => M (ix2 r n)) (Fin.ext (Nat.add_sub_cancel_left 1536 k.val)))

/-- The reference's result. -/
theorem result_at (X : Mat 16384 2048) (S : Mat 16384 1536) (M : Mat 16384 512) (W : Mat 2048 2048) :
    val_main_v4 (F := Ideal) X S M W = OutProjection.G X S M W := by
  funext j
  rw [val_main_v4_apply]
  unfold OutProjection.G
  rw [add_assoc]
  refine congrArg (X j + ·) ((val_main_v3_apply S M W j).trans ?_)
  refine (Fin.sum_univ_add (a := 1536) (b := 512) _).trans (congrArg₂ (· + ·) ?_ ?_)
  · refine Finset.sum_congr rfl fun k _ => congrArg₂ (· * ·) ?_ (congrArg W (eq_ix2 _))
    exact (congrArg _ (eq_ix2 _)).trans (left_at S M (j 0) k)
  · refine Finset.sum_congr rfl fun k _ => congrArg₂ (· * ·) ?_ (congrArg W (eq_ix2 _))
    exact (congrArg _ (eq_ix2 _)).trans (right_at S M (j 0) k)

end Cert.Reference5Ideal.Out

end
-- ==== Proof.MixProduct.lean ====
/-
The mixed products of the first layer: every row is moved a learned part of the way to the row before it, once for each group
of columns, and multiplied by the group's columns of the weights. This is the function that the two programs are shown to compute.
-/
module

public import proofs.«01_k».proof.Proof.NormProduct

set_option maxRecDepth 16384

@[expose] public section

noncomputable section

namespace Cert.MixProduct

open Idealize.ShloMosaic Cert.Band Cert.NormProduct

/-- Entry `l` of the row before row `r`: zero before the first row of a sequence of 4096. -/
def before (H : Mat 16384 2048) (r : Fin 16384) (l : Fin 2048) : EReal :=
  if r.val % 4096 = 0 then 0 else rd H (r.val - 1) l.val

/-- Row `n` of the six rows of mixing weights, and zero for any other number. -/
def weight (A : Mat 6 2048) (n : ℕ) (l : Fin 2048) : EReal :=
  if h : n < 6 then A (ix2 ⟨n, h⟩ l) else 0

/-- Row `r` moved towards the row before it, by mixing weights `n`. -/
def mixed (H : Mat 16384 2048) (A : Mat 6 2048) (n : ℕ) (r : Fin 16384) (l : Fin 2048) : EReal :=
  H (ix2 r l) + (before H r l - H (ix2 r l)) * weight A n l

/-- The mixing weights that a tile of 512 columns takes: rows 0, 2 and 3 for three tiles each, and none for the last tile. -/
def mix (n : ℕ) : ℕ := if n < 3 then 0 else if n < 6 then 2 else if n < 9 then 3 else 6

/-- The mixed rows times the weights. -/
def G (H : Mat 16384 2048) (A : Mat 6 2048) (W : Mat 2048 5120) (j : (⟨2, ![16384, 5120]⟩ : Shape).Idx) : EReal :=
  ∑ k : Fin 2048, mixed H A (mix ((j 1).val / 512)) (j 0) k * W (ix2 k (j 1))

end Cert.MixProduct

end
-- ==== Proof.MixTable.lean ====
module

public import proofs.«01_k».proof.Proof.MixProduct
public import proofs.«01_k».proof.Proof.Gen.Kernel6.Frame
public import proofs.«01_k».proof.Proof.Gen.Kernel6Ideal.Frame
public import Idealize.ShloMosaic.Lib.Pipeline.ValueKit
public import Idealize.ShloMosaic.Lib.StableHlo.ReadAt

/-! The table of mixing weights that the mixed product prefetches, a constant: with it the blocks that its index map names lie
    inside their array, and the body mixes anew exactly where a group of three tiles begins. -/

@[expose] public section

set_option maxRecDepth 16384

noncomputable section

namespace Cert.Kernel6Ideal.Mix

open Cert.Kernel6Ideal Cert.Kernel6Ideal.Gen Idealize.ShloMosaic Idealize.ShloMosaic.TcCoe Idealize.SL.Sem Cert.MixProduct

variable (m : (ℓ : Loc nD τ sig) → Buf (Elt Ideal) ℓ)

/-- The table, as the host writes it. -/
def table : pre0.Contents (Elt Ideal) := fun | 0 => fun i => lit0 (S10.rowMajor i)

/-- The call finds the table in place. -/
theorem tbl_eq : tbl m = table := by
  funext j
  match j with
  | 0 =>
    simp only [tbl, V]
    after_reads_simp
    rfl

/-- Which row of mixing weights is staged at a point. -/
theorem row_at : ∀ i : grid0.Coords, cc0_transform_2 k0_off1_inb numel1_S1 table i = ![mix (i 1).val, 0, 0] := by
  decide +kernel

/-- Those rows lie inside their array. -/
theorem ok : Ok m := by
  unfold Ok ok0
  rw [tbl_eq]
  intro i
  refine ⟨?_, .inl rfl⟩
  revert i
  decide +kernel

/-- Where the body mixes anew, by the grid's coordinates. -/
theorem group_at : ∀ i : grid0.Coords,
    cond0_1 i
      (tbM0_0.view.readAt (Elt Ideal) (Rect.unit (s := S10) (k0_off1 i) S1.size (k0_off1_inb i)).toLoadRect (table 0)
        (Shape.Idx.first (numel1_S1.symm ▸ Nat.one_pos)))
      (tbM0_0.view.readAt (Elt Ideal) (Rect.unit (s := S10) (k0_off2 i) S1.size (k0_off2_inb i)).toLoadRect (table 0)
        (Shape.Idx.first (numel1_S1.symm ▸ Nat.one_pos)))
    ↔ (i 1).val % 3 = 0 := by
  decide +kernel

/-- A point's second coordinate. -/
theorem second : ∀ t : Fin grid0.N, ((grid0.coords t) 1).val = t.val % 10 := by
  decide +kernel

/-- Where the body mixes anew, by the point. -/
theorem group (t : Fin grid0.N) :
    cond0_1 (grid0.coords t)
      (tbM0_0.view.readAt (Elt Ideal) (Rect.unit (s := S10) (k0_off1 (grid0.coords t)) S1.size (k0_off1_inb (grid0.coords t))).toLoadRect
        (tbl m 0) (Shape.Idx.first (numel1_S1.symm ▸ Nat.one_pos)))
      (tbM0_0.view.readAt (Elt Ideal) (Rect.unit (s := S10) (k0_off2 (grid0.coords t)) S1.size (k0_off2_inb (grid0.coords t))).toLoadRect
        (tbl m 0) (Shape.Idx.first (numel1_S1.symm ▸ Nat.one_pos)))
    ↔ t.val % 10 % 3 = 0 := by
  rw [tbl_eq, ← second t]
  exact group_at _

/-- The first tile of a block of rows begins a group. -/
theorem hyps : Hyps m (ok m) :=
  Hyps.of fun _ t h0 h1 => absurd ((group m t).2 (by rw [(hcond0_0 t).1 h0])) h1

end Cert.Kernel6Ideal.Mix

namespace Cert.Kernel6.Mix

open Cert.Kernel6 Cert.Kernel6.Gen Idealize.ShloMosaic Idealize.ShloMosaic.TcCoe Idealize.SL.Sem

variable (m : (ℓ : Loc nD τ sig) → Buf (Elt Bits) ℓ)

/-- The table, as the host of the kernel itself writes it. -/
def table : pre0.Contents (Elt Bits) := fun | 0 => fun i => lit0 (S10.rowMajor i)

/-- The call finds the table in place. -/
theorem tbl_eq : tbl m = table := by
  funext j
  match j with
  | 0 =>
    simp only [tbl, V]
    after_reads_simp
    rfl

/-- The rows of mixing weights that it names lie inside their array. -/
theorem ok : Ok m := by
  unfold Ok ok0
  rw [tbl_eq]
  intro i
  refine ⟨?_, .inl rfl⟩
  revert i
  decide +kernel

/-- The first tile of a block of rows begins a group, by the grid's coordinates. -/
theorem group_at : ∀ i : grid0.Coords, cond0_0 i →
    cond0_1 i
      (tbM0_0.view.readAt (Elt Bits) (Rect.unit (s := S10) (k0_off1 i) S1.size (k0_off1_inb i)).toLoadRect (table 0)
        (Shape.Idx.first (numel1_S1.symm ▸ Nat.one_pos)))
      (tbM0_0.view.readAt (Elt Bits) (Rect.unit (s := S10) (k0_off2 i) S1.size (k0_off2_inb i)).toLoadRect (table 0)
        (Shape.Idx.first (numel1_S1.symm ▸ Nat.one_pos))) := by
  decide +kernel

/-- So the side condition of the body holds. -/
theorem hyps : Hyps m (ok m) :=
  Hyps.of fun _ t h0 h1 => absurd (by rw [tbl_eq]; exact group_at _ h0) h1

end Cert.Kernel6.Mix

end
-- ==== Proof.Mix.lean ====
module

public import proofs.«01_k».proof.Proof.MixTable

/-! What the mixed product leaves in its result array. -/

@[expose] public section

set_option maxRecDepth 16384

noncomputable section

namespace Cert.Kernel6Ideal.Mix

open Cert.Kernel6Ideal Cert.Kernel6Ideal.Gen Idealize.ShloMosaic Idealize.ShloMosaic.TcCoe Idealize.SL.Sem Cert.Band Cert.NormProduct
  Cert.MixProduct

variable (m : (ℓ : Loc nD τ sig) → Buf (Elt Ideal) ℓ) (c : Dev nD)

/-- The rows to mix, as the run finds them. -/
abbrev argH : Mat 16384 2048 := m ((c : Thread nD τ).loc main_arg0)
/-- The mixing weights. -/
abbrev argA : Mat 6 2048 := m ((c : Thread nD τ).loc main_arg1)
/-- The weights of the product. -/
abbrev argW : Mat 2048 5120 := m ((c : Thread nD τ).loc main_arg2)

/-- The body's test for the first block of a sequence, a remainder rounded towards minus infinity, is the test that the
    block's number is a multiple of four. -/
theorem starts : ∀ i : Fin 16,
    Scalar.cmpi CmpIPredicate.eq
      (Scalar.select
        (Scalar.andi
          (Scalar.xori
            (Scalar.cmpi CmpIPredicate.slt
              (Scalar.remsi (Scalar.muli (BitVec.ofNat 32 i.val) 1024#32)
                (Scalar.select (Scalar.cmpi CmpIPredicate.eq 4096#32 0#32) 1#32 4096#32)) 0#32)
            (Scalar.cmpi CmpIPredicate.slt (Scalar.select (Scalar.cmpi CmpIPredicate.eq 4096#32 0#32) 1#32 4096#32) 0#32))
          (Scalar.cmpi CmpIPredicate.ne
            (Scalar.remsi (Scalar.muli (BitVec.ofNat 32 i.val) 1024#32)
              (Scalar.select (Scalar.cmpi CmpIPredicate.eq 4096#32 0#32) 1#32 4096#32)) 0#32))
        (Scalar.addi
          (Scalar.remsi (Scalar.muli (BitVec.ofNat 32 i.val) 1024#32)
            (Scalar.select (Scalar.cmpi CmpIPredicate.eq 4096#32 0#32) 1#32 4096#32))
          (Scalar.select (Scalar.cmpi CmpIPredicate.eq 4096#32 0#32) 1#32 4096#32))
        (Scalar.remsi (Scalar.muli (BitVec.ofNat 32 i.val) 1024#32)
          (Scalar.select (Scalar.cmpi CmpIPredicate.eq 4096#32 0#32) 1#32 4096#32)))
      0#32 = if i.val % 4 = 0 then 1#1 else 0#1 := by
  decide +kernel

/-- A row of a block is its first row, as a word, exactly when its number is zero. -/
theorem top : ∀ y : Fin 1024, IntOp.cmpi CmpIPredicate.eq (BitVec.ofNat 32 y.val) 0#32 = if y.val = 0 then 1#1 else 0#1 := by
  decide +kernel

/-- What the body stores in its second scratch buffer: each row of the block taken from the row before it, which for the
    first row is in another block, or zero at the beginning of a sequence. -/
theorem pay1_at (i : grid0.Coords) (x : Vec Ideal S1024x2048 .f32) (p : Vec Ideal S1x2048 .f32) (j : S1024x2048.Idx) :
    k0_pay1 (F := Ideal) i x p j
      = (if (j 0).val = 0 then if (i 0).val % 4 = 0 then 0 else p (ix2 0 (j 1))
          else x (ix2 ⟨((j 0).val + 1024 - 1) % 1024, Nat.mod_lt _ (by decide)⟩ (j 1))) - x j := by
  pointwise [k0_pay1]
  rw [starts (i 0), top (j 0)]
  congr 1
  by_cases h0 : (j 0).val = 0 <;> by_cases h1 : (i 0).val % 4 = 0 <;> simp [h0, h1, Scalar.select]

/-- What the body stores in its first scratch buffer: the rows of the block, moved. -/
theorem pay2_at (h d : Vec Ideal S1024x2048 .f32) (a : Vec Ideal S1x1x2048 .f32) (j : S1024x2048.Idx) :
    k0_pay2 (F := Ideal) h d a j = h j + d j * a (ix3 0 0 (j 1)) := by
  pointwise [k0_pay2]

/-- What the body stores in its result block: the first scratch buffer times the block of the weights. -/
theorem pay3_at (h : Vec Ideal S1024x2048 .bf16) (w : Vec Ideal S2048x512 .bf16) (j : S1024x512.Idx) :
    k0_pay3 (F := Ideal) h w j = ∑ k : Fin 2048, h (ix2 (j 0) k) * w (ix2 k (j 1)) := by
  pointwise [k0_pay3]

variable (hO : Ok m)

/-- Which block each window stages at point `t`, of the windows that do not depend on the table. -/
theorem idx : ∀ t : Fin (cfgM m hO).N,
    ((cfgM m hO).win 0).index t = ![t.val / 10, 0]
    ∧ ((cfgM m hO).win 1).index t = ![t.val / 10 * 128 - 1, 0]
    ∧ ((cfgM m hO).win 3).index t = ![0, t.val % 10]
    ∧ ((cfgM m hO).win 4).index t = ![t.val / 10, t.val % 10] :=
  (by decide +kernel : ∀ t : Fin grid0.N, cc0_transform_0 (grid0.coords t) = ![t.val / 10, 0] ∧
    cc0_transform_1 (grid0.coords t) = ![t.val / 10 * 128 - 1, 0] ∧
    cc0_transform_3 (grid0.coords t) = ![0, t.val % 10] ∧ cc0_transform_4 (grid0.coords t) = ![t.val / 10, t.val % 10])

/-- A point's first coordinate. -/
theorem firstCoord : ∀ t : Fin grid0.N, ((grid0.coords t) 0).val = t.val / 10 := by
  decide +kernel

/-- Which row of mixing weights is staged at point `t`. -/
theorem idx2 (t : Fin (cfgM m hO).N) : ((cfgM m hO).win 2).index t = ![mix (t.val % 10), 0, 0] := by
  show cc0_transform_2 k0_off1_inb numel1_S1 (tbl m) (grid0.coords t) = _
  rw [tbl_eq, row_at, second]

theorem blk0 (t : Fin (cfgM m hO).N) (y : Fin 1024) (l : Fin 2048) (r : Fin 16384) (hr : r.val = t.val / 10 * 1024 + y.val) :
    (iblk m hO c 0 t : Vec Ideal S1024x2048 .f32) (ix2 y l) = argH m c (ix2 r l) := by
  show V m c main_arg0 ((((cfgM m hO).win 0).blk t).view.emb (ix2 y l)) = _
  rw [V_main_arg0]
  refine congrArg (argH m c) ?_
  blk_ext [idx m hO t]

theorem blk1 (t : Fin (cfgM m hO).N) (l : Fin 2048) (r : Fin 16384) (h : ¬ t.val / 10 % 4 = 0) (hr : r.val = t.val / 10 * 1024 - 1) :
    (iblk m hO c 1 t : Vec Ideal S8x2048 .f32) (ix2 7 l) = argH m c (ix2 r l) := by
  show V m c main_arg0 ((((cfgM m hO).win 1).blk t).view.emb (ix2 7 l)) = _
  rw [V_main_arg0]
  refine congrArg (argH m c) ?_
  blk_ext [idx m hO t]

theorem blk2 (t : Fin (cfgM m hO).N) (l : Fin 2048) :
    (iblk m hO c 2 t : Vec Ideal S1x1x2048 .f32) (ix3 0 0 l) = weight (argA m c) (mix (t.val % 10)) l := by
  show V m c main_v3 ((((cfgM m hO).win 2).blk t).view.emb (ix3 0 0 l)) = _
  have e : (((cfgM m hO).win 2).blk t).view.emb (ix3 0 0 l)
      = ix3 (⟨mix (t.val % 10), by unfold mix; split_ifs <;> omega⟩ : Fin 7) (0 : Fin 1) l := by
    blk_ext [idx2 m hO t]
  rw [e]
  simp only [V]
  after_reads_simp
  pointwise [weight]
  after_reads_simp
  split
  · rfl
  · pointwise

theorem blk3 (t : Fin (cfgM m hO).N) (k : Fin 2048) (y : Fin 512) (q : Fin 5120) (hq : q.val = t.val % 10 * 512 + y.val) :
    (iblk m hO c 3 t : Vec Ideal S2048x512 .bf16) (ix2 k y) = argW m c (ix2 k q) := by
  show V m c main_v2 ((((cfgM m hO).win 3).blk t).view.emb (ix2 k y)) = _
  simp only [V]
  after_reads_simp
  pointwise
  refine congrArg (argW m c) ?_
  blk_ext [idx m hO t]

variable (hH : Hyps m hO)

/-- The second scratch buffer after the first point of a block of rows. -/
theorem first (t : Fin (cfgM m hO).N) (h : t.val % 10 = 0) (y : Fin 1024) (l : Fin 2048) (r : Fin 16384)
    (hr : r.val = t.val / 10 * 1024 + y.val) :
    (outsAt0 m hO hH c t.val t.isLt).2.2 (ix2 y l) = before (argH m c) r l - argH m c (ix2 r l) := by
  obtain ⟨x0, hx0⟩ : ∃ x : Vec Ideal S1024x2048 .f32, iblk m hO c 0 t = x := ⟨_, rfl⟩
  obtain ⟨x1, hx1⟩ : ∃ x : Vec Ideal S8x2048 .f32, iblk m hO c 1 t = x := ⟨_, rfl⟩
  have e0 := blk0 m c hO t y l r hr
  rw [outsAt0_A m hO hH c t h ((group m t).2 (by rw [h])), hx0, hx1]
  frame_out
  rw [pay1_at]
  have hy := y.isLt
  rw [hx0] at e0
  have hc := firstCoord t
  have e1 : View.ld x1 (Rect.unit ![7, 0] ![1, 2048] inb_S8x2048_S1x2048_7_0) (ix2 0 l)
      = x1 (ix2 7 l) := by
    refine congrArg x1 (funext fun a => Fin.ext ((Rect.idx_unit_val _ _ _ _ a).trans ?_))
    match a with
    | ⟨0, _⟩ => rfl
    | ⟨1, _⟩ => exact Nat.zero_add l.val
  refine congrArg₂ (fun a b : EReal => a - b) ?_ e0
  show (if y.val = 0 then if (grid0.coords t 0).val % 4 = 0 then 0 else _ else _) = _
  unfold before
  rw [hc]
  by_cases hy0 : y.val = 0
  · by_cases h4 : t.val / 10 % 4 = 0
    · rw [if_pos hy0, if_pos h4, if_pos (by omega)]
    · rw [if_pos hy0, if_neg h4, if_neg (by omega)]
      refine e1.trans ((congrFun hx1.symm _).trans ((blk1 m c hO t l ⟨r.val - 1, by omega⟩ h4 (by show r.val - 1 = _; omega)).trans ?_))
      exact rd_ix2 _ _ _
  · rw [if_neg hy0, if_neg (by omega)]
    refine (congrFun hx0.symm _).trans ((blk0 m c hO t ⟨(y.val + 1024 - 1) % 1024, _⟩ l ⟨r.val - 1, by omega⟩ (by
      show r.val - 1 = t.val / 10 * 1024 + (y.val + 1024 - 1) % 1024; omega)).trans ?_)
    exact rd_ix2 _ _ _

/-- The other points leave the second scratch buffer alone. -/
theorem next (n : ℕ) (hn : n + 1 < (cfgM m hO).N) (h : ¬ (n + 1) % 10 = 0) :
    (outsAt0 m hO hH c (n + 1) hn).2.2 = (outsAt0 m hO hH c n (Nat.lt_of_succ_lt hn)).2.2 := by
  by_cases h1 : (n + 1) % 10 % 3 = 0
  · rw [outsAt0_C m hO hH c ⟨n + 1, hn⟩ h ((group m ⟨n + 1, hn⟩).2 h1)]
    dsimp only
    unfold sout0_C_1
    rfl
  · rw [outsAt0_D m hO hH c ⟨n + 1, hn⟩ h (fun hc => h1 ((group m ⟨n + 1, hn⟩).1 hc))]
    dsimp only
    unfold sout0_D_1
    rfl

/-- The second scratch buffer after point `n`. -/
theorem second_scratch (n : ℕ) (hn : n < (cfgM m hO).N) (y : Fin 1024) (l : Fin 2048) (r : Fin 16384)
    (hr : r.val = n / 10 * 1024 + y.val) :
    (outsAt0 m hO hH c n hn).2.2 (ix2 y l) = before (argH m c) r l - argH m c (ix2 r l) :=
  carried 10 (fun n h => (outsAt0 m hO hH c n h).2.2)
    (fun b v => ∀ r : Fin 16384, r.val = b * 1024 + y.val → v (ix2 y l) = before (argH m c) r l - argH m c (ix2 r l))
    (fun n h h0 r hr => first m c hO hH ⟨n, h⟩ h0 y l r hr) (next m c hO hH) n hn r hr

/-- Where a group begins, the first scratch buffer is made of the second, as the point leaves it. -/
theorem begins (t : Fin (cfgM m hO).N) (h : t.val % 10 % 3 = 0) (y : Fin 1024) (l : Fin 2048) (r : Fin 16384)
    (hr : r.val = t.val / 10 * 1024 + y.val) :
    (outsAt0 m hO hH c t.val t.isLt).2.1 (ix2 y l)
      = argH m c (ix2 r l)
        + ((outsAt0 m hO hH c t.val t.isLt).2.2 (ix2 y l) : EReal) * weight (argA m c) (mix (t.val % 10)) l := by
  rw [← blk0 m c hO t y l r hr, ← blk2 m c hO t l]
  obtain ⟨x0, hx0⟩ : ∃ x : Vec Ideal S1024x2048 .f32, iblk m hO c 0 t = x := ⟨_, rfl⟩
  obtain ⟨x1, hx1⟩ : ∃ x : Vec Ideal S8x2048 .f32, iblk m hO c 1 t = x := ⟨_, rfl⟩
  obtain ⟨x2, hx2⟩ : ∃ x : Vec Ideal S1x1x2048 .f32, iblk m hO c 2 t = x := ⟨_, rfl⟩
  by_cases h0 : t.val % 10 = 0
  · rw [outsAt0_A m hO hH c t h0 ((group m t).2 h), hx0, hx1, hx2]
    frame_out
    exact pay2_at _ _ _ (ix2 y l)
  · rw [outsAt0_C m hO hH c t h0 ((group m t).2 h), hx0, hx1, hx2]
    frame_out
    rw [(Memref.isWhole_whole cc0_scratch1).read_unread]
    exact pay2_at _ _ _ (ix2 y l)

/-- The first scratch buffer after point `n`: the rows of the block, moved by the mixing weights of the point's tile. -/
theorem scratch : ∀ (n : ℕ) (hn : n < (cfgM m hO).N) (y : Fin 1024) (l : Fin 2048) (r : Fin 16384),
    r.val = n / 10 * 1024 + y.val →
    (outsAt0 m hO hH c n hn).2.1 (ix2 y l) = mixed (argH m c) (argA m c) (mix (n % 10)) r l
  | n, hn, y, l, r, hr => by
    by_cases h : n % 10 % 3 = 0
    · refine (begins m c hO hH ⟨n, hn⟩ h y l r hr).trans ?_
      rw [second_scratch m c hO hH n hn y l r hr]
      rfl
    · obtain ⟨k, rfl⟩ : ∃ k, n = k + 1 := ⟨n - 1, by omega⟩
      have e : mix ((k + 1) % 10) = mix (k % 10) := by
        unfold mix
        split_ifs <;> omega
      rw [outsAt0_D m hO hH c ⟨k + 1, hn⟩ (by show ¬ (k + 1) % 10 = 0; omega) (fun hc => h ((group m ⟨k + 1, hn⟩).1 hc))]
      dsimp only
      unfold sout0_D_0
      rw [e]
      exact scratch k _ y l r (by omega)

/-- The result block after point `t`: the first scratch buffer, as the point leaves it, times the block of the weights. -/
theorem block (t : Fin (cfgM m hO).N) (w : Vec Ideal S2048x512 .bf16) (hw : iblk m hO c 3 t = w) (j : S1024x512.Idx) :
    (outsAt0 m hO hH c t.val t.isLt).1 j = ∑ k : Fin 2048,
      ((outsAt0 m hO hH c t.val t.isLt).2.1 (ix2 (j 0) k) : EReal) * w (ix2 k (j 1)) := by
  obtain ⟨x0, hx0⟩ : ∃ x : Vec Ideal S1024x2048 .f32, iblk m hO c 0 t = x := ⟨_, rfl⟩
  obtain ⟨x1, hx1⟩ : ∃ x : Vec Ideal S8x2048 .f32, iblk m hO c 1 t = x := ⟨_, rfl⟩
  obtain ⟨x2, hx2⟩ : ∃ x : Vec Ideal S1x1x2048 .f32, iblk m hO c 2 t = x := ⟨_, rfl⟩
  by_cases h : t.val % 10 % 3 = 0
  · by_cases h0 : t.val % 10 = 0
    · rw [outsAt0_A m hO hH c t h0 ((group m t).2 h), hx0, hx1, hx2, hw]
      frame_out
      exact pay3_at _ _ j
    · rw [outsAt0_C m hO hH c t h0 ((group m t).2 h), hx0, hx1, hx2, hw]
      frame_out
      exact pay3_at _ _ j
  · rw [outsAt0_D m hO hH c t (by omega) (fun hc => h ((group m t).1 hc)), hx0, hx1, hx2, hw]
    frame_out
    rw [(Memref.isWhole_whole cc0_scratch0).read_unread]
    unfold sout0_D_0
    exact pay3_at _ _ j

/-- The result blocks fill the result array. -/
theorem covers : ((cfgM m hO).win 4).Covers := by
  refine ⟨?_, fun β => ?_⟩
  · show ∀ a : Fin 2, 0 < S1024x512.size a
    decide
  · have h0 : (β (0 : Fin 2)).val < 16 := Nat.lt_of_lt_of_eq (β (0 : Fin 2)).isLt (by
      show (S16384x5120.size 0 + S1024x512.size 0 - 1) / S1024x512.size 0 = 16; decide)
    have h1 : (β (1 : Fin 2)).val < 10 := Nat.lt_of_lt_of_eq (β (1 : Fin 2)).isLt (by
      show (S16384x5120.size 1 + S1024x512.size 1 - 1) / S1024x512.size 1 = 10; decide)
    have hN : (cfgM m hO).N = 160 := N_0
    refine ⟨⟨(β (0 : Fin 2)).val * 10 + (β (1 : Fin 2)).val, by show _ < (cfgM m hO).N; omega⟩, flush0_4 (adm m hO) _, fun a => ⟨?_, .inl rfl⟩⟩
    rw [(idx m hO _).2.2.2]
    match a with
    | ⟨0, _⟩ => show (_ * 10 + _) / 10 = (β (0 : Fin 2)).val; omega
    | ⟨1, _⟩ => show (_ * 10 + _) % 10 = (β (1 : Fin 2)).val; omega

/-- Point `t` writes back its block of the mixed product. -/
theorem result (t : Fin (cfgM m hO).N) (y : S1024x512.Idx) :
    (outsAt0 m hO hH c t.val t.isLt).1 y
      = MixProduct.G (argH m c) (argA m c) (argW m c) ((((cfgM m hO).win 4).blk t).view.emb y) := by
  have ht : t.val < 160 := Nat.lt_of_lt_of_eq t.isLt N_0
  have hy : (y 0).val < 1024 := (y 0).isLt
  have hz : (y 1).val < 512 := (y 1).isLt
  have e : (((cfgM m hO).win 4).blk t).view.emb y
      = ix2 (⟨t.val / 10 * 1024 + (y 0).val, by omega⟩ : Fin 16384) (⟨t.val % 10 * 512 + (y 1).val, by omega⟩ : Fin 5120) := by
    blk_ext [idx m hO t]
  rw [e]
  refine (block m c hO hH t _ rfl y).trans ?_
  refine Fin.sum_fin_congr fun k => ?_
  refine congrArg₂ (· * ·) ((scratch m c hO hH t.val t.isLt _ k ⟨t.val / 10 * 1024 + (y 0).val, by omega⟩ rfl).trans ?_) (blk3 m c hO t k _ ⟨t.val % 10 * 512 + (y 1).val, by omega⟩ rfl)
  refine congrArg (fun n => mixed (argH m c) (argA m c) (mix n) _ k) ?_
  show t.val % 10 = (t.val % 10 * 512 + (y 1).val) / 512
  omega

/-- The result array, after the run. -/
theorem final : (dats m hO hH 0 c).arrAt 4 (cfgM m hO).N = MixProduct.G (argH m c) (argA m c) (argW m c) := by
  refine (dats m hO hH 0 c).arrAt_eq_of_covers 4 _ (covers m hO) fun t _ y => ?_
  blk_simp
  rw [after0_4]
  exact result m c hO hH t y

/-- The run ends with the mixed product in the result array and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v4) = MixProduct.G (argH m c) (argA m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h.1 c).1 4).trans (final m c (ok m) (hyps m)), h.2 c⟩)
    (θ_run_and (run_main m ρ (ok m) (hyps m)) (unchanged m ρ (ok m) (hyps m)))

end Cert.Kernel6Ideal.Mix

end
-- ==== Proof.MixReference.lean ====
module

public import proofs.«01_k».proof.Proof.MixProduct
public import proofs.«01_k».proof.Proof.Gen.Reference6Ideal.Read
public import Idealize.ShloMosaic.Lib.KernelVsHost

/-! What the reference of the mixed product computes. -/

@[expose] public section

set_option maxRecDepth 16384

noncomputable section

namespace Cert.Reference6Ideal.Mix

open Cert.Reference6Ideal Cert.Reference6Ideal.Read Idealize.ShloMosaic Cert.Band Cert.NormProduct Cert.MixProduct

variable (H : Mat 16384 2048) (A : Mat 6 2048) (W : Mat 2048 5120)

/-- The rows as four sequences of 4096. -/
theorem seq_at (b : Fin 4) (s : Fin 4096) (l : Fin 2048) (r : Fin 16384) (hr : r.val = b.val * 4096 + s.val) :
    val_main_v0 (F := Ideal) H (ix3 b s l) = H (ix2 r l) := by
  rw [val_main_v0_apply]
  have hl := l.isLt
  refine congrArg H (funext fun a => Fin.ext ?_)
  match a with
  | ⟨0, _⟩ => show ((b.val * 4096 + s.val) * 2048 + l.val) / 2048 = r.val; omega
  | ⟨1, _⟩ => show ((b.val * 4096 + s.val) * 2048 + l.val) % 2048 = l.val; omega

/-- The sequences moved one row down, with zeros in front. -/
theorem before_at (b : Fin 4) (s : Fin 4096) (l : Fin 2048) (r : Fin 16384) (hr : r.val = b.val * 4096 + s.val) :
    val_main_v2 (F := Ideal) H (ix3 b s l) = before H r l := by
  have hs := s.isLt
  unfold before val_main_v2
  by_cases h : s.val = 0
  · rw [if_pos (by omega)]
    refine (pad_apply_of_not_inside _ _ _ _ _ _ _ _ 1 fun hin => ?_).trans ?_
    · have h1 : 1 ≤ s.val := hin.1
      omega
    · rw [val_main_call0_v0_apply, val_main_c_apply]
      show (((0#32 : BitVec 32).toInt : ℝ) : EReal) = 0
      simp
  · rw [if_neg (by omega)]
    refine (pad_apply_of_inside _ _ _ _ _ _ _ _ (ix3 b (⟨s.val - 1, by omega⟩ : Fin 4095) l) fun a => ?_).trans ?_
    · match a with
      | ⟨0, _⟩ => show b.val = 0 + b.val * 1; omega
      | ⟨1, _⟩ => show s.val = 1 + (s.val - 1) * 1; omega
      | ⟨2, _⟩ => show l.val = 0 + l.val * 1; omega
    · rw [val_main_v1_apply]
      refine (congrArg (val_main_v0 (F := Ideal) H) (eq_ix3 _)).trans
        ((seq_at H b ⟨s.val - 1, by omega⟩ l ⟨r.val - 1, by omega⟩ (by show r.val - 1 = b.val * 4096 + (s.val - 1); omega)).trans ?_)
      exact rd_ix2 _ _ _

/-- The first mixture, with row 0 of the mixing weights. -/
theorem mixed0_at (b : Fin 4) (s : Fin 4096) (l : Fin 2048) (r : Fin 16384) (hr : r.val = b.val * 4096 + s.val) :
    val_main_v9 (F := Ideal) H A (ix3 b s l) = mixed H A 0 r l := by
  unfold mixed weight
  rw [← seq_at H b s l r hr, ← before_at H b s l r hr]
  pointwise [val_main_v9, val_main_v8, val_main_v7, val_main_v6, val_main_v5, val_main_v4, val_main_v3]

/-- The second, with row 2. -/
theorem mixed2_at (b : Fin 4) (s : Fin 4096) (l : Fin 2048) (r : Fin 16384) (hr : r.val = b.val * 4096 + s.val) :
    val_main_v15 (F := Ideal) H A (ix3 b s l) = mixed H A 2 r l := by
  unfold mixed weight
  rw [← seq_at H b s l r hr, ← before_at H b s l r hr]
  pointwise [val_main_v15, val_main_v14, val_main_v13, val_main_v12, val_main_v11, val_main_v10, val_main_v3]

/-- The third, with row 3. -/
theorem mixed3_at (b : Fin 4) (s : Fin 4096) (l : Fin 2048) (r : Fin 16384) (hr : r.val = b.val * 4096 + s.val) :
    val_main_v21 (F := Ideal) H A (ix3 b s l) = mixed H A 3 r l := by
  unfold mixed weight
  rw [← seq_at H b s l r hr, ← before_at H b s l r hr]
  pointwise [val_main_v21, val_main_v20, val_main_v19, val_main_v18, val_main_v17, val_main_v16, val_main_v3]

/-- With no mixing weights a row stays as it is. -/
theorem mixed6 (r : Fin 16384) (l : Fin 2048) : mixed H A 6 r l = H (ix2 r l) := by
  unfold mixed weight
  rw [dif_neg (by decide), mul_zero, add_zero]

/-- The four products side by side. -/
theorem columns_at (b : Fin 4) (s : Fin 4096) (n : Fin 5120) (r : Fin 16384) (hr : r.val = b.val * 4096 + s.val) :
    val_main_v30 (F := Ideal) H A W (ix3 b s n) = ∑ k : Fin 2048, mixed H A (mix (n.val / 512)) r k * W (ix2 k n) := by
  have hn := n.isLt
  have e : val_main_v30 (F := Ideal) H A W (ix3 b s n)
      = if h : n.val < 1536 then val_main_v23 (F := Ideal) H A W (ix3 b s ⟨n.val, h⟩)
        else if h : n.val - 1536 < 1536 then val_main_v25 (F := Ideal) H A W (ix3 b s ⟨n.val - 1536, h⟩)
        else if h : n.val - 1536 - 1536 < 1536 then val_main_v27 (F := Ideal) H A W (ix3 b s ⟨n.val - 1536 - 1536, h⟩)
        else val_main_v29 (F := Ideal) H W (ix3 b s ⟨n.val - 1536 - 1536 - 1536, by omega⟩) := by
    pointwise [val_main_v30]
  rw [e]
  split_ifs with h0 h1 h2
  · rw [show mix (n.val / 512) = 0 by unfold mix; split_ifs <;> omega, val_main_v23_apply]
    refine Finset.sum_congr rfl fun k _ => congrArg₂ (· * ·)
      ((congrArg _ (eq_ix3 _)).trans (mixed0_at H A b s k r hr)) ((val_main_v22_apply _ _).trans (congrArg W ((eq_ix2 _).trans (congrArg (ix2 k) (Fin.ext ?_)))))
    show n.val = n.val
    rfl
  · rw [show mix (n.val / 512) = 2 by unfold mix; split_ifs <;> omega, val_main_v25_apply]
    refine Finset.sum_congr rfl fun k _ => congrArg₂ (· * ·)
      ((congrArg _ (eq_ix3 _)).trans (mixed2_at H A b s k r hr)) ((val_main_v24_apply _ _).trans (congrArg W ((eq_ix2 _).trans (congrArg (ix2 k) (Fin.ext ?_)))))
    show 1536 + (n.val - 1536) = n.val
    omega
  · rw [show mix (n.val / 512) = 3 by unfold mix; split_ifs <;> omega, val_main_v27_apply]
    refine Finset.sum_congr rfl fun k _ => congrArg₂ (· * ·)
      ((congrArg _ (eq_ix3 _)).trans (mixed3_at H A b s k r hr)) ((val_main_v26_apply _ _).trans (congrArg W ((eq_ix2 _).trans (congrArg (ix2 k) (Fin.ext ?_)))))
    show 3072 + (n.val - 1536 - 1536) = n.val
    omega
  · rw [show mix (n.val / 512) = 6 by unfold mix; split_ifs <;> omega, val_main_v29_apply]
    refine Finset.sum_congr rfl fun k _ => congrArg₂ (· * ·)
      ((congrArg _ (eq_ix3 _)).trans ((seq_at H b s k r hr).trans (mixed6 H A r k).symm)) ((val_main_v28_apply _ _).trans (congrArg W ((eq_ix2 _).trans (congrArg (ix2 k) (Fin.ext ?_)))))
    show 4608 + (n.val - 1536 - 1536 - 1536) = n.val
    omega

/-- The reference's result. -/
theorem result_at : val_main_v31 (F := Ideal) H A W = MixProduct.G H A W := by
  funext j
  have h0 : (j 0).val < 16384 := (j 0).isLt
  have h1 : (j 1).val < 5120 := (j 1).isLt
  rw [val_main_v31_apply]
  refine (congrArg (val_main_v30 (F := Ideal) H A W) (funext fun a => Fin.ext ?_)).trans
    (columns_at H A W ⟨(j 0).val / 4096, by omega⟩ ⟨(j 0).val % 4096, by omega⟩ (j 1) (j 0) (by
      show (j 0).val = (j 0).val / 4096 * 4096 + (j 0).val % 4096; omega))
  match a with
  | ⟨0, _⟩ => show ((j 0).val * 5120 + (j 1).val) / 20971520 = (j 0).val / 4096; omega
  | ⟨1, _⟩ => show ((j 0).val * 5120 + (j 1).val) / 5120 % 4096 = (j 0).val % 4096; omega
  | ⟨2, _⟩ => show ((j 0).val * 5120 + (j 1).val) % 5120 = (j 1).val; omega

end Cert.Reference6Ideal.Mix

end
-- ==== Proof.PeerFrame.lean ====
module

public import proofs.«01_k».proof.Proof.Gen.Kernel4Ideal.Frame
public import proofs.«01_k».proof.Proof.Gen.Kernel4Ideal.Skeleton
public import Idealize.ShloMosaic.Lib.VecWindow
public import Idealize.ShloMosaic.Lib.Claim

/-! The run of the expert queries' projection, which also writes out the normalised rows: those are stored at the first of the
two points of a block of rows and written back after the second, which leaves them alone. -/

@[expose] public section

set_option maxRecDepth 16384

noncomputable section

namespace Cert.Kernel4Ideal.Peer

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one test, from the grid coordinates. -/
abbrev starts (i : grid0.Coords) : Prop := k0_cond1 i = 1#1

/-- It holds at the first of the two points of a block of rows. -/
theorem starts_iff (t : Fin cfg0.N) : starts (grid0.coords t) ↔ t.val % 2 = 0 := by
  have ht : t.val < 64 := Nat.lt_of_lt_of_eq t.isLt N_0
  have e1 : (grid0.coords t 1).val = t.val / 1 % 2 := Pipeline.Grid.coords_val t 1 (by decide) rfl
  simp only [starts, k0_cond1, e1]
  word_cmp

/-- The scratch buffer. -/
abbrev scr : Memref sig .tc .vmem S512x2048 .bf16 := Memref.whole cc0_scratch0

/-- What the region owns beside the windows: the scratch buffer at anything, and the generator's register. -/
theorem rest_eq (c : Dev nD) :
    (Pipeline.ΦA spec0 c : sProp 𝕄) = iprop(iprop((∃ d, owns (c : Thread nD τ) scr fullShare d)) ∗ (∃ r, prngReg c r)) := by
  unfold Pipeline.ΦA
  rw [scopedRest0_eq]
  simp only [scr, owns_whole]
  rfl

/-- A load of a whole buffer of known contents reads those contents. -/
theorem load_whole {s : Shape} {e : EltTy} {a : Memref sig .tc .vmem s e} (h : a.IsWhole) {off : Fin s.rank → ℕ}
    (inb : ∀ b, off b + s.size b ≤ s.size b) (x : Vec F s e) :
    a.view.readAt (Elt F) (Rect.unit off s.size inb).toLoadRect (h.unread x) = x :=
  (View.readAt_full a.view _ inb).trans (h.read_unread x)

section Body

variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S512x1024 .bf16) (h5 : a5.IsWhole)
  (a6 : Memref sig .tc .vmem S512x2048 .f32) (h6 : a6.IsWhole) (a7 : Memref sig .tc .vmem S512x2048 .bf16) (h7 : a7.IsWhole)
  (x : Vec F S512x2048 .f32) (g : Vec F S1x2048 .f32) (w : Vec F S2048x1024 .bf16) (E : Set ℕ)

set_option maxHeartbeats 1000000 in
/-- At the first point of a block of rows the body stores the normalised rows, twice, and the product. -/
theorem body_first (K : PUnit → sProp 𝕄) (hi : starts i) :
    iprop(owns (c : Thread nD τ) a2 fullShare x ∗ owns (c : Thread nD τ) a3 fullShare g ∗ owns (c : Thread nD τ) a4 fullShare w
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a2 fullShare x ∗ owns (c : Thread nD τ) a3 fullShare g
            ∗ owns (c : Thread nD τ) a4 fullShare w ∗ owns (c : Thread nD τ) a5 fullShare (k0_pay3 (k0_pay2 x g) w)
            ∗ owns (c : Thread nD τ) a6 fullShare (k0_pay1 x g) ∗ owns (c : Thread nD τ) a7 fullShare (k0_pay2 x g)) -∗ K ⟨⟩))
      ⊢ wp frame (wpE (defs₀ (F := F)) Variants.none c none) E (cc0_norm_matmul i a2 h2 a3 h3 a4 h4 a5 h5 a6 h6 a7 h7) K := by
  simp only [cc0_norm_matmul_eq_skeleton]; unfold cc0_norm_matmul_skel
  unfold owns
  iintro ⟨⟨%f2, %e2, H2⟩, ⟨%f3, %e3, H3⟩, ⟨%f4, %e4, H4⟩, ⟨%d5, %f5, -, H5⟩, ⟨%d6, %f6, -, H6⟩, ⟨%d7, %f7, -, H7⟩, Hk⟩
  obtain rfl := h2.eq_unread e2; obtain rfl := h3.eq_unread e3; obtain rfl := h4.eq_unread e4
  sl_exec (disch := first | sl_exact hi)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    refine (View.read_writes_full a5.view f5 _ _ _).trans ?_
    exact congrArg₂ k0_pay3 ((View.readCov_full a7.view _ _ _ _).trans (congrArg₂ k0_pay2 (load_whole h2 _ x) (load_whole h3 _ g)))
      (load_whole h4 _ w)
  isplitl [H6]
  · iexists _; isplitr
    swap; · iexact H6
    ipureintro
    refine (View.read_writes_full a6.view f6 _ _ _).trans ?_
    exact congrArg₂ k0_pay1 (load_whole h2 _ x) (load_whole h3 _ g)
  iexists _; isplitr
  swap; · iexact H7
  ipureintro
  refine (View.read_writes_full a7.view f7 _ _ _).trans ?_
  exact congrArg₂ k0_pay2 (load_whole h2 _ x) (load_whole h3 _ g)

set_option maxHeartbeats 1000000 in
/-- At the second point it stores the product alone: the normalised rows are those in the scratch buffer. -/
theorem body_second (K : PUnit → sProp 𝕄) (hi : ¬ starts i) (v : Vec F S512x2048 .bf16) (u : Vec F S512x2048 .f32) :
    iprop(owns (c : Thread nD τ) a2 fullShare x ∗ owns (c : Thread nD τ) a3 fullShare g ∗ owns (c : Thread nD τ) a4 fullShare w
        ∗ (∃ d, owns (c : Thread nD τ) a5 fullShare d) ∗ owns (c : Thread nD τ) a6 fullShare u ∗ owns (c : Thread nD τ) a7 fullShare v
        ∗ (iprop(owns (c : Thread nD τ) a2 fullShare x ∗ owns (c : Thread nD τ) a3 fullShare g
            ∗ owns (c : Thread nD τ) a4 fullShare w ∗ owns (c : Thread nD τ) a5 fullShare (k0_pay3 v w)
            ∗ owns (c : Thread nD τ) a6 fullShare u ∗ owns (c : Thread nD τ) a7 fullShare v) -∗ K ⟨⟩))
      ⊢ wp frame (wpE (defs₀ (F := F)) Variants.none c none) E (cc0_norm_matmul i a2 h2 a3 h3 a4 h4 a5 h5 a6 h6 a7 h7) K := by
  simp only [cc0_norm_matmul_eq_skeleton]; unfold cc0_norm_matmul_skel
  unfold owns
  iintro ⟨H2, H3, ⟨%f4, %e4, H4⟩, ⟨%d5, %f5, -, H5⟩, H6, ⟨%f7, %e7, H7⟩, Hk⟩
  obtain rfl := h4.eq_unread e4; obtain rfl := h7.eq_unread e7
  sl_exec (disch := first | sl_exact hi)
  sl_step
  iapply Hk
  isplitl [H2]; · iexact H2
  isplitl [H3]; · iexact H3
  isplitl [H4]
  · iexists _; isplitr; · ipureintro; exact h4.read_unread _
    iexact H4
  isplitl [H5]
  · iexists _; isplitr
    swap; · iexact H5
    ipureintro
    refine (View.read_writes_full a5.view f5 _ _ _).trans ?_
    exact congrArg₂ k0_pay3 (load_whole h7 _ v) (load_whole h4 _ w)
  isplitl [H6]; · iexact H6
  iexists _; isplitr; · ipureintro; exact h7.read_unread _
  iexact H7

end Body

/-- The normalised rows, and the same rows as the scratch buffer holds them, after point `n`: made at the first of the two
    points of a block of rows and kept at the second. -/
def kept (c : Dev nD) : (n : ℕ) → n < cfg0.N → Vec F S512x2048 .f32 × Vec F S512x2048 .bf16
  | 0, h => (k0_pay1 (iblk m c 0 ⟨0, h⟩) (iblk m c 1 ⟨0, h⟩), k0_pay2 (iblk m c 0 ⟨0, h⟩) (iblk m c 1 ⟨0, h⟩))
  | n + 1, h =>
    if (n + 1) % 2 = 0 then
      (k0_pay1 (iblk m c 0 ⟨n + 1, h⟩) (iblk m c 1 ⟨n + 1, h⟩), k0_pay2 (iblk m c 0 ⟨n + 1, h⟩) (iblk m c 1 ⟨n + 1, h⟩))
    else kept c n (Nat.lt_of_succ_lt h)

theorem kept_first (c : Dev nD) (t : Fin cfg0.N) (h : t.val % 2 = 0) :
    kept m c t.val t.isLt = (k0_pay1 (iblk m c 0 t) (iblk m c 1 t), k0_pay2 (iblk m c 0 t) (iblk m c 1 t)) := by
  obtain ⟨n, hn⟩ := t
  cases n with
  | zero => rfl
  | succ n => exact if_pos h

theorem kept_second (c : Dev nD) (t : Fin cfg0.N) (h : ¬ t.val % 2 = 0) :
    kept m c t.val t.isLt = kept m c (t.val - 1) (Nat.lt_of_le_of_lt (Nat.sub_le _ _) t.isLt) := by
  obtain ⟨n, hn⟩ := t
  cases n with
  | zero => exact absurd rfl h
  | succ n => exact if_neg h

/-- Between the points: the scratch buffer at what the point before left in it, and the generator's register. -/
def between (c : Dev nD) : (n : ℕ) → n ≤ cfg0.N → sProp 𝕄
  | 0, _ => Pipeline.ΦA spec0 c
  | n + 1, h => iprop(owns (c : Thread nD τ) scr fullShare (kept m c n h).2 ∗ (∃ r, prngReg c r))

theorem between_pos (c : Dev nD) (n : ℕ) (h : n ≤ cfg0.N) (hn : n ≠ 0) :
    between m c n h = iprop(owns (c : Thread nD τ) scr fullShare (kept m c (n - 1) (by omega)).2 ∗ (∃ r, prngReg c r)) := by
  cases n with
  | zero => exact absurd rfl hn
  | succ n => rfl

/-- What each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t.val t.isLt).2 (iblk m c 2 t)
    | ⟨4, _⟩ => (kept m c t.val t.isLt).1
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay3 (kept m c t.val t.isLt).2 (iblk m c 2 t) := by dsimp only [dats]
theorem after_4 (c : Dev nD) (t : Fin cfg0.N) : (dats m 0 c).after 4 t = (kept m c t.val t.isLt).1 := by dsimp only [dats]

/-- The body stores the normalised rows at the first point of a block of rows alone. -/
theorem live_iff (t : Fin cfg0.N) : cfg0.idle 4 (cfg0.grid.coords t) = false ↔ t.val % 2 = 0 := by
  rw [← starts_iff]
  show (!(k0_cond1 (grid0.coords t) == 1#1)) = false ↔ k0_cond1 (grid0.coords t) = 1#1
  simp

/-- At the second point of a block of rows the buffer of the normalised rows still holds what the first left. -/
theorem before_4 (c : Dev nD) (t : Fin cfg0.N) (h : ¬ t.val % 2 = 0) (d) :
    (dats m 0 c).before 4 t d = (kept m c t.val t.isLt).1 := by
  have ht : t.val ≠ 0 := fun e => h (by rw [e])
  have hi : cfg0.idle 4 (cfg0.grid.coords ⟨t.val - 1, Nat.lt_of_le_of_lt (Nat.sub_le _ _) t.isLt⟩) = false := by
    refine (live_iff _).2 ?_
    show (t.val - 1) % 2 = 0
    omega
  have hf : (cfg0.win 4).flush ⟨t.val - 1, Nat.lt_of_le_of_lt (Nat.sub_le _ _) t.isLt⟩ = false := by
    refine Bool.eq_false_iff.2 fun e => ?_
    have e1 : (t.val - 1) % 2 = 1 := (flush0_4 _).1 e
    omega
  rw [kept_second m c t h, ← after_4 m c ⟨t.val - 1, _⟩, (dats m 0 c).before_of_pos 4 t ht ((cfg0.win 4).fetch_out rfl t), hf,
    if_neg Bool.false_ne_true]
  unfold Dat.left
  rw [hi]
  unfold Dat.kept
  rw [Pipeline.fill_of_clip_none 4 _ (fun _ => rfl) d ((dats m 0 c).after 4 _), Window.fill_cut]

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- Before any point the scratch buffer holds something. -/
theorem between_any (c : Dev nD) (n : ℕ) (h : n ≤ cfg0.N) : between m c n h ⊢ Pipeline.ΦA spec0 c := by
  cases n with
  | zero => exact Entails.refl _
  | succ n =>
    rw [rest_eq]
    show iprop(owns (c : Thread nD τ) scr fullShare (kept m c n h).2 ∗ (∃ r, prngReg c r)) ⊢ _
    iintro ⟨HS, Hg⟩
    isplitl [HS]
    · iexists _; iexact HS
    iexact Hg

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c)]
  rw [show (dats m 0 c).owesAt () t.succ = (dats m 0 c).owesAt () t.castSucc from rfl, after_0, after_1, after_2, after_3, after_4]
  rw [show (dats m 0 c).Φ t.succ
      = iprop(owns (c : Thread nD τ) scr fullShare (kept m c t.val t.isLt).2 ∗ (∃ r, prngReg c r)) from rfl]
  rw [show (dats m 0 c).Φ t.castSucc = between m c t.val (Nat.le_of_lt t.isLt) from rfl]
  by_cases h : t.val % 2 = 0
  · rw [kept_first m c t h]
    refine (BIClass.sep_mono (between_any m c _ _) (Entails.refl _)).trans ?_
    rw [rest_eq]
    dsimp only
    iintro ⟨⟨HS, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ (iblk m c 0 t) (iblk m c 1 t) (iblk m c 2 t) Set.univ _
      ((starts_iff t).2 h))
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have ht : t.val ≠ 0 := fun e => h (by rw [e])
    simp only [before_4 m c t h]
    rw [between_pos m c _ _ ht, ← kept_second m c t h]
    iintro ⟨⟨HS, Hg⟩, Ho, ⟨%d0, H0⟩, ⟨%d1, H1⟩, ⟨%d2, H2⟩, ⟨%d3, H3⟩, ⟨%d4, H4⟩⟩
    iapply (body_second c (grid0.coords t) _ _ _ _ _ _ _ _ _ _ _ _ (iblk m c 0 t) (iblk m c 1 t) (iblk m c 2 t) Set.univ _
      (fun hs => h ((starts_iff t).1 hs)) _ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := by
  unfold defs₀
  rw [Defs.onTc_tc]

/-- The body keeps to the proof data at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  by_cases h : t.val % 2 = 0
  · have hi : idle0 4 (grid0.coords t) = false := (live_iff t).2 h
    simp only [hi]
    exact .rfl
  · have hf : (cfg0.win 4).flush t = true := (flush0_4 t).2 (by omega)
    have hi : idle0 4 (grid0.coords t) = true := by
      rw [← Bool.not_eq_false]; exact fun e => h ((live_iff t).1 e)
    simp only [hi, hf]
    exact .rfl

set_option backward.isDefEq.respectTransparency.types false in
/-- The run ends with every array at what the proof data says, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Entails.refl _) (hout := fun c => between_any m c cfg0.N (Nat.le_refl _))

/-- The run ends with every array at what the proof data says. -/
theorem run_main : θ_run defs (onTc (τ := τ) (main (F := F))) (s₀ m ρ) (Pipeline.FramePost cfgs (dats m) 0 (V m)) :=
  (θ_run defs _ _).mono (fun _ h => h.1) (run_quiescent m ρ)

/-- It leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨h.1, h.2.2⟩) (θ_run_and (unchanged m ρ) (run_quiescent m ρ))

end Cert.Kernel4Ideal.Peer

end
-- ==== Proof.Peer.lean ====
module

public import proofs.«01_k».proof.Proof.NormProduct
public import proofs.«01_k».proof.Proof.Gen.Kernel4Ideal.Skeleton
public import proofs.«01_k».proof.Proof.PeerFrame
public import Idealize.ShloMosaic.Lib.Pipeline.ValueKit
public import Idealize.ShloMosaic.Lib.StableHlo.ReadAt

/-! What the expert queries' projection leaves in its two result arrays: the normalised rows of its first argument, scaled by the
    second, times the third; and those rows. -/

@[expose] public section

set_option maxRecDepth 16384

noncomputable section

namespace Cert.Kernel4Ideal.Peer

open Cert.Kernel4Ideal Cert.Kernel4Ideal.Gen Idealize.ShloMosaic Idealize.ShloMosaic.TcCoe Idealize.SL.Sem Cert.Band Cert.NormProduct

variable (m : (ℓ : Loc nD τ sig) → Buf (Elt Ideal) ℓ) (c : Dev nD)

/-- The rows to normalise, as the run finds them. -/
abbrev argX : Mat 16384 2048 := m ((c : Thread nD τ).loc main_arg0)
/-- Their scale. -/
abbrev argG : Row 2048 := m ((c : Thread nD τ).loc main_arg1)
/-- The weights. -/
abbrev argW : Mat 2048 2048 := m ((c : Thread nD τ).loc main_arg2)

/-- The rows that the body writes out: the normalised rows of the block. -/
theorem pay1_at (x : Vec Ideal S512x2048 .f32) (g : Vec Ideal S1x2048 .f32) (j : S512x2048.Idx) :
    k0_pay1 (F := Ideal) x g j = normed (fun l => x (ix2 (j 0) l)) (fun l => g (ix2 0 l)) (j 1) := by
  pointwise [k0_pay1, normed]

/-- What the body stores in its scratch buffer: the same rows. -/
theorem pay2_at (x : Vec Ideal S512x2048 .f32) (g : Vec Ideal S1x2048 .f32) (j : S512x2048.Idx) :
    k0_pay2 (F := Ideal) x g j = k0_pay1 (F := Ideal) x g j := by
  unfold k0_pay2
  generalize k0_pay1 (F := Ideal) x g = v
  pointwise

/-- What the body stores in its block of the product: the scratch buffer times the block of the weights. -/
theorem pay3_at (h : Vec Ideal S512x2048 .bf16) (w : Vec Ideal S2048x1024 .bf16) (j : S512x1024.Idx) :
    k0_pay3 (F := Ideal) h w j = ∑ k : Fin 2048, h (ix2 (j 0) k) * w (ix2 k (j 1)) := by
  pointwise [k0_pay3]

/-- Which block each window stages at point `t`. -/
theorem idx : ∀ t : Fin cfg0.N,
    win0_0.index t = ![t.val / 2, 0] ∧ win0_1.index t = ![0, 0]
    ∧ win0_2.index t = ![0, t.val % 2] ∧ win0_3.index t = ![t.val / 2, t.val % 2] ∧ win0_4.index t = ![t.val / 2, 0] :=
  (by decide +kernel : ∀ t : Fin grid0.N, _)

theorem blk0 (t : Fin cfg0.N) (y : Fin 512) (l : Fin 2048) (r : Fin 16384) (hr : r.val = t.val / 2 * 512 + y.val) :
    (iblk m c 0 t : Vec Ideal S512x2048 .f32) (ix2 y l) = argX m c (ix2 r l) := by
  show V m c main_arg0 (((cfg0.win 0).blk t).view.emb (ix2 y l)) = _
  rw [V_main_arg0]
  refine congrArg (argX m c) ?_
  blk_ext [idx t]

theorem blk1 (t : Fin cfg0.N) (l : Fin 2048) :
    (iblk m c 1 t : Vec Ideal S1x2048 .f32) (ix2 0 l) = argG m c (ix1 l) := by
  show V m c main_v1 (((cfg0.win 1).blk t).view.emb (ix2 0 l)) = _
  simp only [V]
  after_reads_simp
  pointwise
  refine congrArg (argG m c) ?_
  blk_ext [idx t]

theorem blk2 (t : Fin cfg0.N) (k : Fin 2048) (y : Fin 1024) (q : Fin 2048) (hq : q.val = t.val % 2 * 1024 + y.val) :
    (iblk m c 2 t : Vec Ideal S2048x1024 .bf16) (ix2 k y) = argW m c (ix2 k q) := by
  show V m c main_v0 (((cfg0.win 2).blk t).view.emb (ix2 k y)) = _
  simp only [V]
  after_reads_simp
  pointwise
  refine congrArg (argW m c) ?_
  blk_ext [idx t]

/-- What the first point of a block of rows leaves: the normalised rows of the block. -/
theorem first (t : Fin cfg0.N) (h : t.val % 2 = 0) (y : Fin 512) (l : Fin 2048) (r : Fin 16384)
    (hr : r.val = t.val / 2 * 512 + y.val) :
    (kept m c t.val t.isLt).1 (ix2 y l) = rows (argX m c) (argG m c) (ix2 r l)
      ∧ (kept m c t.val t.isLt).2 (ix2 y l) = rows (argX m c) (argG m c) (ix2 r l) := by
  have e : k0_pay1 (F := Ideal) (iblk m c 0 t) (iblk m c 1 t) (ix2 y l) = rows (argX m c) (argG m c) (ix2 r l) := by
    rw [pay1_at]
    exact congrArg₂ (fun a b => normed a b l) (funext fun k => blk0 m c t y k r hr) (funext fun k => blk1 m c t k)
  rw [kept_first m c t h]
  exact ⟨e, (pay2_at _ _ _).trans e⟩

/-- What is kept after point `n`: the normalised rows of the block that the point is in. -/
theorem kept_at (n : ℕ) (hn : n < cfg0.N) (y : Fin 512) (l : Fin 2048) (r : Fin 16384) (hr : r.val = n / 2 * 512 + y.val) :
    (kept m c n hn).1 (ix2 y l) = rows (argX m c) (argG m c) (ix2 r l)
      ∧ (kept m c n hn).2 (ix2 y l) = rows (argX m c) (argG m c) (ix2 r l) :=
  carried 2 (kept m c)
    (fun b v => ∀ r : Fin 16384, r.val = b * 512 + y.val → v.1 (ix2 y l) = rows (argX m c) (argG m c) (ix2 r l)
      ∧ v.2 (ix2 y l) = rows (argX m c) (argG m c) (ix2 r l))
    (fun n h h0 r hr => first m c ⟨n, h⟩ h0 y l r hr) (fun n h h1 => kept_second m c ⟨n + 1, h⟩ h1) n hn r hr

/-- The first result, after the run: the product. -/
theorem final_product : (dats m 0 c).arrAt 3 cfg0.N = NormProduct.G (argX m c) (argG m c) (argW m c) := by
  refine (dats m 0 c).arrAt_eq_of_covers 3 _ (by decide +kernel) fun t _ y => ?_
  blk_simp
  rw [after_3, pay3_at]
  have e0 : ((((cfg0.win 3).blk t).view.emb y) 0).val = t.val / 2 * 512 + (y 0).val := by
    blk_simp [idx t]
  have e1 : ((((cfg0.win 3).blk t).view.emb y) 1).val = t.val % 2 * 1024 + (y 1).val := by
    blk_simp [idx t]
  refine Fin.sum_fin_congr fun k => ?_
  exact congrArg₂ (· * ·) (kept_at m c t.val t.isLt _ k _ e0).2 (blk2 m c t k _ _ e1)

/-- The second result, after the run: the normalised rows. -/
theorem final_rows : (dats m 0 c).arrAt 4 cfg0.N = rows (argX m c) (argG m c) := by
  refine (dats m 0 c).arrAt_eq_of_covers 4 _ (by decide +kernel) fun t _ y => ?_
  blk_simp
  rw [after_4]
  have ht : t.val < 64 := Nat.lt_of_lt_of_eq t.isLt N_0
  have hy : (y 0).val < 512 := (y 0).isLt
  have e : ((cfg0.win 4).blk t).view.emb y = ix2 (⟨t.val / 2 * 512 + (y 0).val, by omega⟩ : Fin 16384) (y 1) := by
    blk_ext [idx t]
  rw [e]
  exact (congrArg (kept m c t.val t.isLt).1 (eq_ix2 y)).trans
    (kept_at m c t.val t.isLt (y 0) (y 1) ⟨t.val / 2 * 512 + (y 0).val, by omega⟩ rfl).1

/-- The run ends with the product and the normalised rows in the result arrays and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v2_0) = NormProduct.G (argX m c) (argG m c) (argW m c)
      ∧ r.2.mem ((c : Thread nD τ).loc main_v2_1) = rows (argX m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h.1 c).1 3).trans (final_product m c), ((h.1 c).1 4).trans (final_rows m c), h.2 c⟩)
    (θ_run_and (run_main m ρ) (unchanged m ρ))

end Cert.Kernel4Ideal.Peer

end
-- ==== Proof.PeerReference.lean ====
module

public import proofs.«01_k».proof.Proof.NormProduct
public import proofs.«01_k».proof.Proof.Gen.Reference4Ideal.Read

/-! What the reference of the expert queries' projection computes. -/

@[expose] public section

set_option maxRecDepth 16384

noncomputable section

namespace Cert.Reference4Ideal.Peer

open Cert.Reference4Ideal Cert.Reference4Ideal.Read Idealize.ShloMosaic Cert.Band Cert.NormProduct

/-- The reference's second result, the normalised rows. -/
theorem rows_at (X : Mat 16384 2048) (g : Row 2048) (j : (⟨2, ![16384, 2048]⟩ : Shape).Idx) :
    val_main_v12 (F := Ideal) X g j = rows X g j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rows, normed]

/-- The reference's first result, the product. -/
theorem result_at (X : Mat 16384 2048) (g : Row 2048) (W : Mat 2048 2048) :
    val_main_v14 (F := Ideal) X g W = G X g W := by
  funext j
  rw [val_main_v14_apply]
  refine (val_main_v13_apply X g W j).trans ?_
  refine Finset.sum_congr rfl fun k _ => ?_
  rw [rows_at]
  exact congrArg₂ (· * ·) (congrArg _ (eq_ix2 _)) (congrArg W (eq_ix2 _))

end Cert.Reference4Ideal.Peer

end
-- ==== Proof.MemoryTarget.lean ====
/-
The memory attention as one function of its two arrays, the function that both programs are shown to compute.
-/
module

public import proofs.«01_k».proof.Proof.Target

set_option maxRecDepth 16384

@[expose] public section

noncomputable section

namespace Cert.Memory

open Idealize.ShloMosaic Cert.Band

/-- The scale of the scores, the float word of one over the square root of 128. -/
def scale : EReal := Ideal.ofBits .f32 0x3DB504F3#32

/-- The scale is a real number. -/
theorem scale_real : IsReal scale := by
  unfold scale
  simp [Ideal.ofBits, Ideal.ieee, IsReal, -EReal.coe_mul]

/-- The score of query row `r` and head `h` against the `k`-th of the 256 memory tokens of the row's sequence. A sequence
    has 4096 rows; the memory queries lie behind the first 1536 columns of `X`. -/
def score (X : Mat 16384 2048) (M : Mat 1024 1024) (r h : ℕ) (k : Fin 256) : EReal :=
  (∑ d : Fin 128, rd X r (1536 + (h * 128 + d.val)) * rd M (r / 4096 * 256 + k.val) (h * 128 + d.val)) * scale

/-- One entry of the result: the memory values, weighted by the softmax of the scores. -/
def entry (X : Mat 16384 2048) (M : Mat 1024 1024) (r C : ℕ) : EReal :=
  ∑ k : Fin 256, rd M (r / 4096 * 256 + k.val) (512 + C)
    * Ideal.div (expo (score X M r (C / 128)) k) (∑ k', expo (score X M r (C / 128)) k')

/-- The whole result. -/
def G (X : Mat 16384 2048) (M : Mat 1024 1024) (j : (⟨2, ![16384, 512]⟩ : Shape).Idx) : EReal :=
  entry X M (j 0).val (j 1).val

/-- The memory queries and the memory keys are real numbers. -/
structure Reals (X : Mat 16384 2048) (M : Mat 1024 1024) : Prop where
  q : ∀ r c, c < 512 → IsReal (rd X r (1536 + c))
  k : ∀ r c, c < 512 → IsReal (rd M r c)

/-- Scores of real queries and keys are real. -/
theorem score_real {X : Mat 16384 2048} {M : Mat 1024 1024} (H : Reals X M) (r h : ℕ) (hh : h < 4) (k : Fin 256) :
    IsReal (score X M r h k) :=
  (IsReal.sum _ _ fun d _ => (H.q _ _ (by omega)).mul (H.k _ _ (by omega))).mul scale_real

/-- The weighted values over the sum of the weights is the entry: the division may come last. -/
theorem entry_of_div {X : Mat 16384 2048} {M : Mat 1024 1024} (H : Reals X M) (r C : ℕ) (hC : C < 512) :
    Ideal.div (∑ k, expo (score X M r (C / 128)) k * rd M (r / 4096 * 256 + k.val) (512 + C)) (∑ k, expo (score X M r (C / 128)) k)
      = entry X M r C := by
  refine div_sum _ (fun k => .inr (score_real H r _ (by omega) k)) 0 ?_ _ _ fun k _ => rfl
  obtain ⟨x, hx⟩ := score_real H r (C / 128) (by omega) 0
  rw [hx]
  exact EReal.coe_ne_bot x

end Cert.Memory

end
-- ==== Proof.Memory.lean ====
module

public import proofs.«01_k».proof.Proof.MemoryTarget
public import proofs.«01_k».proof.Proof.Gen.Kernel7Ideal.Value
public import Idealize.ShloMosaic.Lib.Pipeline.ValueKit

/-! What the memory attention leaves in its result array: four heads for each block of 512 query rows, each the same function
    of its queries and of its columns of the memory's keys and values. -/

@[expose] public section

set_option maxRecDepth 16384

noncomputable section

namespace Cert.Kernel7Ideal.Memory

open Cert.Kernel7Ideal Cert.Kernel7Ideal.Gen Idealize.ShloMosaic Idealize.ShloMosaic.TcCoe Idealize.SL.Sem Cert.Memory
open Cert.Band hiding score entry G Reals

variable (m : (ℓ : Loc nD τ sig) → Buf (Elt Ideal) ℓ) (c : Dev nD)

/-- The queries, as the run finds them. -/
abbrev argX : Mat 16384 2048 := m ((c : Thread nD τ).loc main_arg0)
/-- The memory's keys and values. -/
abbrev argM : Mat 1024 1024 := m ((c : Thread nD τ).loc main_arg1)

/-- One head's columns of a result block. -/
def head {F : FTy → Type} [FloatOps F] (q : Vec F S512x128 .bf16) (k v : Vec F S256x128 .bf16) : FVec F S512x128 .bf16 :=
  k0_pay9 (k0_pay4 q k) v

/-- The four stores of a point are the four heads. -/
theorem out_eq {F : FTy → Type} [FloatOps F] (x0 : Vec F S512x512 .bf16) (x1 : Vec F S256x1024 .bf16) :
    out0_2 x0 x1 = View.canon
      [⟨r0_6, head (View.ld x0 r0_6) (View.ld x1 r0_7) (View.ld x1 r0_11)⟩,
       ⟨r0_4, head (View.ld x0 r0_4) (View.ld x1 r0_5) (View.ld x1 r0_10)⟩,
       ⟨r0_2, head (View.ld x0 r0_2) (View.ld x1 r0_3) (View.ld x1 r0_9)⟩,
       ⟨r0_0, head (View.ld x0 r0_0) (View.ld x1 r0_1) (View.ld x1 r0_8)⟩] := by
  rfl

/-- A head's weights, before the division. -/
theorem weights_at (q : Vec Ideal S512x128 .bf16) (k : Vec Ideal S256x128 .bf16) (i : Fin 512) (l : Fin 256) :
    k0_pay4 (F := Ideal) q k (ix2 i l)
      = expo (fun l' : Fin 256 => (∑ d : Fin 128, q (ix2 i d) * k (ix2 l' d)) * scale) l := by
  pointwise [k0_pay4]
  rw [bot_f32]
  rfl

/-- A head's entry: the weighted values over the sum of the weights. -/
theorem head_at (q : Vec Ideal S512x128 .bf16) (k v : Vec Ideal S256x128 .bf16) (s : Fin 256 → EReal) (i : Fin 512) (x : Fin 128)
    (hs : ∀ l : Fin 256, (∑ d : Fin 128, q (ix2 i d) * k (ix2 l d)) * scale = s l) :
    head (F := Ideal) q k v (ix2 i x) = Ideal.div (∑ l, expo s l * v (ix2 l x)) (∑ l, expo s l) := by
  have W := weights_at q k i
  rw [funext hs] at W
  pointwise [head, k0_pay9]
  simp only [W]

/-- Which block each window stages at point `t`. -/
theorem idx : ∀ t : Fin cfg0.N,
    win0_0.index t = ![t.val, 3] ∧ win0_1.index t = ![t.val / 8, 0] ∧ win0_2.index t = ![t.val, 0] :=
  (by decide +kernel : ∀ t : Fin grid0.N, _)

theorem blk0 (t : Fin cfg0.N) (y x : Fin 512) :
    (iblk m c 0 t : Vec Ideal S512x512 .bf16) (ix2 y x) = rd (argX m c) (t.val * 512 + y.val) (1536 + x.val) := by
  show V m c main_arg0 (((cfg0.win 0).blk t).view.emb (ix2 y x)) = _
  rw [V_main_arg0]
  refine rd_of _ _ _ _ ?_ ?_ <;> blk_simp [idx t]

theorem blk1 (t : Fin cfg0.N) (y : Fin 256) (x : Fin 1024) :
    (iblk m c 1 t : Vec Ideal S256x1024 .bf16) (ix2 y x) = rd (argM m c) (t.val / 8 * 256 + y.val) x.val := by
  show V m c main_arg1 (((cfg0.win 1).blk t).view.emb (ix2 y x)) = _
  rw [V_main_arg1]
  refine rd_of _ _ _ _ ?_ ?_ <;> blk_simp [idx t]

/-- Head `h` of point `t`, at an entry of its columns: the memory attention's entry. -/
theorem piece (H : Reals (argX m c) (argM m c)) (t : Fin cfg0.N) (h : ℕ) (hh : h < 4)
    (q : Vec Ideal S512x128 .bf16) (k v : Vec Ideal S256x128 .bf16)
    (hq : ∀ (i : Fin 512) (x : Fin 128), q (ix2 i x) = (iblk m c 0 t : Vec Ideal S512x512 .bf16) (ix2 i ⟨h * 128 + x.val, by omega⟩))
    (hk : ∀ (l : Fin 256) (x : Fin 128), k (ix2 l x) = (iblk m c 1 t : Vec Ideal S256x1024 .bf16) (ix2 l ⟨h * 128 + x.val, by omega⟩))
    (hv : ∀ (l : Fin 256) (x : Fin 128), v (ix2 l x) = (iblk m c 1 t : Vec Ideal S256x1024 .bf16) (ix2 l ⟨512 + (h * 128 + x.val), by omega⟩))
    (i : Fin 512) (x : Fin 128) :
    head (F := Ideal) q k v (ix2 i x) = entry (argX m c) (argM m c) (t.val * 512 + i.val) (h * 128 + x.val) := by
  have er : (t.val * 512 + i.val) / 4096 = t.val / 8 := by omega
  have eh : (h * 128 + x.val) / 128 = h := by omega
  rw [← entry_of_div H _ _ (by omega), er, eh]
  refine (head_at q k v (score (argX m c) (argM m c) (t.val * 512 + i.val) h) i x fun l => ?_).trans ?_
  · unfold score
    rw [er]
    refine congrArg (· * scale) (Finset.sum_congr rfl fun d _ => ?_)
    rw [hq, hk, blk0, blk1]
  · simp only [hv, blk1]

/-- Head `h` of point `t`, with its loads. -/
theorem tile (H : Reals (argX m c) (argM m c)) (t : Fin cfg0.N) (h : ℕ) (hh : h < 4)
    (hq : ∀ a : Fin 2, ![0, h * 128] a + S512x128.size a ≤ S512x512.size a)
    (hk : ∀ a : Fin 2, ![0, h * 128] a + S256x128.size a ≤ S256x1024.size a)
    (hv : ∀ a : Fin 2, ![0, 512 + h * 128] a + S256x128.size a ≤ S256x1024.size a) (x : S512x128.Idx) :
    head (F := Ideal)
        (View.ld (iblk m c 0 t : Vec Ideal S512x512 .bf16) (Rect.unit (s := S512x512) ![0, h * 128] S512x128.size hq))
        (View.ld (iblk m c 1 t : Vec Ideal S256x1024 .bf16) (Rect.unit (s := S256x1024) ![0, h * 128] S256x128.size hk))
        (View.ld (iblk m c 1 t : Vec Ideal S256x1024 .bf16) (Rect.unit (s := S256x1024) ![0, 512 + h * 128] S256x128.size hv)) x
      = entry (argX m c) (argM m c) (t.val * 512 + (x 0).val) (h * 128 + (x 1).val) := by
  refine (congrArg _ (eq_ix2 x)).trans (piece m c H t h hh _ _ _ ?_ ?_ ?_ (x 0) (x 1))
  · exact fun i x => View.ld_unit_apply_of _ _ _ _ _ _ (by intro a; match a with | ⟨0, _⟩ => exact (Nat.zero_add _).symm | ⟨1, _⟩ => rfl)
  · exact fun i x => View.ld_unit_apply_of _ _ _ _ _ _ (by intro a; match a with | ⟨0, _⟩ => exact (Nat.zero_add _).symm | ⟨1, _⟩ => rfl)
  · exact fun i x => View.ld_unit_apply_of _ _ _ _ _ _ (by intro a; match a with | ⟨0, _⟩ => exact (Nat.zero_add _).symm | ⟨1, _⟩ => exact (Nat.add_assoc _ _ _).symm)

/-- What point `t` leaves at index `y` of its block. -/
theorem point (H : Reals (argX m c) (argM m c)) (t : Fin cfg0.N) (y : S512x512.Idx) :
    out0_2 (iblk m c 0 t) (iblk m c 1 t) y = Memory.G (argX m c) (argM m c) (((cfg0.win 2).blk t).view.emb y) := by
  have e0 : ((((cfg0.win 2).blk t).view.emb y) 0).val = t.val * 512 + (y 0).val := by
    blk_simp [idx t]
  have e1 : ((((cfg0.win 2).blk t).view.emb y) 1).val = (y 1).val := by
    blk_simp [idx t]
  unfold Memory.G
  rw [e0, e1, out_eq]
  canon_tiles x h
  · exact (tile m c H t 3 (by decide) _ _ _ x).trans (congrArg₂ (entry _ _) (by omega) (by omega))
  · exact (tile m c H t 2 (by decide) _ _ _ x).trans (congrArg₂ (entry _ _) (by omega) (by omega))
  · exact (tile m c H t 1 (by decide) _ _ _ x).trans (congrArg₂ (entry _ _) (by omega) (by omega))
  · exact (tile m c H t 0 (by decide) _ _ _ x).trans (congrArg₂ (entry _ _) (by omega) (by omega))

/-- The result array, after the run. -/
theorem final (H : Reals (argX m c) (argM m c)) :
    (dats m 0 c).arrAt 2 cfg0.N = Memory.G (argX m c) (argM m c) := by
  refine (dats m 0 c).arrAt_eq_of_covers 2 _ (by decide +kernel) fun t _ y => ?_
  blk_simp
  rw [after0_2]
  exact point m c H t y

end Cert.Kernel7Ideal.Memory

end
-- ==== Proof.MemoryReference.lean ====
module

public import proofs.«01_k».proof.Proof.MemoryTarget
public import proofs.«01_k».proof.Proof.Finite
public import proofs.«01_k».proof.Pre_memory_scores_are_finite
public import proofs.«01_k».proof.Proof.Gen.Reference7Ideal.Read

/-! What the reference of the memory attention computes, and what its precondition says. -/

@[expose] public section

set_option maxRecDepth 16384

noncomputable section

namespace Cert.Memory

open Idealize.ShloMosaic Cert.Band

/-- The shape conditions of the precondition's operations. -/
theorem facts : Cert.Pre_memory_scores_are_finite.Facts where
  slices_S16384x2048_S16384x512_0_1536 := by decide
  bitsLt_bf16_f32 := by decide
  bcast_S_S16384x512 := by decide
  slices_S1024x1024_S1024x512_0_0 := by decide
  bcast_S_S1024x512 := by decide

/-- The two finiteness bits are the hypothesis of the proof. -/
theorem reals_of_pre [Cert.Pre_memory_scores_are_finite.Facts] (X : Mat 16384 2048) (M : Mat 1024 1024)
    (hX : (Cert.Pre_memory_scores_are_finite.fn (F := Ideal) X M).1 = fun _ => 1#1)
    (hM : (Cert.Pre_memory_scores_are_finite.fn (F := Ideal) X M).2 = fun _ => 1#1) : Reals X M where
  q r c hc := by
    unfold rd
    split
    · rename_i h
      have e := congrFun hX (ix2 ⟨r, h.1⟩ ⟨c, hc⟩)
      pointwise [Cert.Pre_memory_scores_are_finite.fn] at e
      exact real_of_abs _ e
    · exact IsReal.zero
  k r c hc := by
    unfold rd
    split
    · rename_i h
      have e := congrFun hM (ix2 ⟨r, h.1⟩ ⟨c, hc⟩)
      pointwise [Cert.Pre_memory_scores_are_finite.fn] at e
      exact real_of_abs _ e
    · exact IsReal.zero

end Cert.Memory

namespace Cert.Reference7Ideal.Memory

open Cert.Reference7Ideal Cert.Reference7Ideal.Gen Cert.Reference7Ideal.Read Idealize.ShloMosaic Cert.Memory
open Cert.Band hiding score entry G Reals

variable (X : Mat 16384 2048) (M : Mat 1024 1024)

/-- The memory queries, sequence by sequence and head by head. -/
theorem q_at (b : Fin 4) (t : Fin 4096) (h : Fin 4) (d : Fin 128) :
    val_main_v2 (F := Ideal) X (ix4 b t h d) = rd X (b.val * 4096 + t.val) (1536 + (h.val * 128 + d.val)) := by
  rw [val_main_v2_apply, val_main_v1_apply, val_main_v0_apply]
  refine rd_of X _ _ _ ?_ ?_
  · show (((b.val * 4096 + t.val) * 4 + h.val) * 128 + d.val) / 512 = _
    omega
  · show 1536 + (((b.val * 4096 + t.val) * 4 + h.val) * 128 + d.val) % 512 = _
    omega

/-- The memory keys. -/
theorem k_at (b : Fin 4) (l : Fin 256) (h : Fin 4) (d : Fin 128) :
    val_main_v6 (F := Ideal) M (ix4 b l h d) = rd M (b.val * 256 + l.val) (h.val * 128 + d.val) := by
  rw [val_main_v6_apply, val_main_v5_apply, val_main_v4_apply, val_main_v3_apply]
  refine rd_of M _ _ _ ?_ ?_
  · show (((((b.val * 256 + l.val) * 4 + h.val) * 128 + d.val) / 131072 * 256
      + (((b.val * 256 + l.val) * 4 + h.val) * 128 + d.val) / 512 % 256) * 1024
      + (((b.val * 256 + l.val) * 4 + h.val) * 128 + d.val) % 512) / 1024 = _
    omega
  · show (((((b.val * 256 + l.val) * 4 + h.val) * 128 + d.val) / 131072 * 256
      + (((b.val * 256 + l.val) * 4 + h.val) * 128 + d.val) / 512 % 256) * 1024
      + (((b.val * 256 + l.val) * 4 + h.val) * 128 + d.val) % 512) % 1024 = _
    omega

/-- The memory values. -/
theorem v_at (b : Fin 4) (l : Fin 256) (h : Fin 4) (d : Fin 128) :
    val_main_v8 (F := Ideal) M (ix4 b l h d) = rd M (b.val * 256 + l.val) (512 + (h.val * 128 + d.val)) := by
  rw [val_main_v8_apply, val_main_v7_apply, val_main_v4_apply, val_main_v3_apply]
  refine rd_of M _ _ _ ?_ ?_
  · show (((((b.val * 256 + l.val) * 4 + h.val) * 128 + d.val) / 131072 * 256
      + (((b.val * 256 + l.val) * 4 + h.val) * 128 + d.val) / 512 % 256) * 1024
      + (512 + (((b.val * 256 + l.val) * 4 + h.val) * 128 + d.val) % 512)) / 1024 = _
    omega
  · show (((((b.val * 256 + l.val) * 4 + h.val) * 128 + d.val) / 131072 * 256
      + (((b.val * 256 + l.val) * 4 + h.val) * 128 + d.val) / 512 % 256) * 1024
      + (512 + (((b.val * 256 + l.val) * 4 + h.val) * 128 + d.val) % 512)) % 1024 = _
    omega

/-- The scores. -/
theorem s_at (b h : Fin 4) (t : Fin 4096) (l : Fin 256) :
    val_main_v11 (F := Ideal) X M (ix4 b h t l) = score X M (b.val * 4096 + t.val) h.val l := by
  rw [val_main_v11_apply, val_main_v10_apply, val_main_cst_apply, val_main_v9_apply]
  unfold score
  have e : (b.val * 4096 + t.val) / 4096 = b.val := by omega
  rw [e]
  refine congrArg (· * scale) (Finset.sum_congr rfl fun d _ => ?_)
  exact congrArg₂ (· * ·) ((congrArg _ (eq_ix4 _)).trans (q_at X b t h d)) ((congrArg _ (eq_ix4 _)).trans (k_at M b l h d))

/-- The row's maximum, started at minus infinity. -/
theorem m_at (b h : Fin 4) (t : Fin 4096) :
    val_main_v14 (F := Ideal) X M (ix3 b h t) = Finset.univ.fold max ⊥ (score X M (b.val * 4096 + t.val) h.val) := by
  have e : val_main_v12 (F := Ideal) X M (ix3 b h t) = Finset.univ.fold max ⊥ (score X M (b.val * 4096 + t.val) h.val) := by
    unfold val_main_v12
    pointwise
    rw [funext fun k => s_at X M b h t k]
    exact congrArg (fun z => Finset.univ.fold max z _) bot_f32
  rw [val_main_v14_apply, e, val_main_v13_apply, val_main_cst_1_apply]
  show max (Ideal.ofBits .f32 4286578688#32) _ = _
  rw [bot_f32]
  exact max_eq_right bot_le

/-- The exponential of a score, less the row's maximum. -/
theorem e_at (b h : Fin 4) (t : Fin 4096) (l : Fin 256) :
    val_main_v18 (F := Ideal) X M (ix4 b h t l) = expo (score X M (b.val * 4096 + t.val) h.val) l := by
  rw [val_main_v18_apply, val_main_v17_apply, s_at, val_main_v16_apply, val_main_v15_apply,
    show idx_main_v15 (idx_main_v16 (ix4 b h t l)) = ix3 b h t from eq_ix3 _, m_at]
  rfl

/-- The row's sum of exponentials. -/
theorem sum_at (b h : Fin 4) (t : Fin 4096) :
    val_main_v19 (F := Ideal) X M (ix3 b h t) = ∑ l, expo (score X M (b.val * 4096 + t.val) h.val) l := by
  rw [val_main_v19_apply, val_main_cst_2_apply]
  have z : (FloatOps.ofBits .f32 (0#32) : Ideal .f32) = (0 : EReal) := by
    show Ideal.ofBits .f32 0#32 = 0
    simp [Ideal.ofBits, Ideal.ieee]
  refine (congrArg (· + _) z).trans ((zero_add _).trans ?_)
  exact Finset.sum_congr rfl fun l _ => (congrArg _ (eq_ix4 _)).trans (e_at X M b h t l)

/-- The attention of one query, at one channel of a head. -/
theorem o_at (b h : Fin 4) (d : Fin 128) (t : Fin 4096) :
    val_main_v23 (F := Ideal) X M (ix4 b h d t) = entry X M (b.val * 4096 + t.val) (h.val * 128 + d.val) := by
  rw [val_main_v23_apply]
  unfold entry
  have eh : (h.val * 128 + d.val) / 128 = h.val := by omega
  have eb : (b.val * 4096 + t.val) / 4096 = b.val := by omega
  rw [eh, eb]
  refine Finset.sum_congr rfl fun l _ => congrArg₂ (· * ·) ((congrArg _ (eq_ix4 _)).trans (v_at M b l h d)) ?_
  refine (congrArg _ (eq_ix4 _)).trans ?_
  show val_main_v22 (F := Ideal) X M (ix4 b h t l) = _
  rw [val_main_v22_apply, val_main_v21_apply, val_main_v20_apply, e_at,
    show idx_main_v20 (idx_main_v21 (ix4 b h t l)) = ix3 b h t from eq_ix3 _, sum_at]
  rfl

/-- The reference's result. -/
theorem result_at : val_main_v26 (F := Ideal) X M = Memory.G X M := by
  funext j
  obtain ⟨h0, h1⟩ : (j 0).val < 16384 ∧ (j 1).val < 512 := ⟨(j 0).isLt, (j 1).isLt⟩
  rw [val_main_v26_apply, val_main_v25_apply, val_main_v24_apply]
  refine (congrArg (val_main_v23 (F := Ideal) X M) (eq_ix4 _)).trans
    ((o_at X M ⟨((j 0).val * 512 + (j 1).val) / 2097152, by omega⟩ ⟨((j 0).val * 512 + (j 1).val) / 128 % 4, by omega⟩
      ⟨((j 0).val * 512 + (j 1).val) % 128, by omega⟩ ⟨((j 0).val * 512 + (j 1).val) / 512 % 4096, by omega⟩).trans ?_)
  exact congrArg₂ (entry X M)
    (by show ((j 0).val * 512 + (j 1).val) / 2097152 * 4096 + ((j 0).val * 512 + (j 1).val) / 512 % 4096 = (j 0).val; omega)
    (by show ((j 0).val * 512 + (j 1).val) / 128 % 4 * 128 + ((j 0).val * 512 + (j 1).val) % 128 = (j 1).val; omega)

end Cert.Reference7Ideal.Memory

end
-- ==== Proof.MemoryProjection.lean ====
module

public import proofs.«01_k».proof.Proof.NormProduct
public import proofs.«01_k».proof.Proof.Gen.Kernel8Ideal.Value
public import Idealize.ShloMosaic.Lib.Pipeline.ValueKit
public import Idealize.ShloMosaic.Lib.StableHlo.ReadAt

/-! What the projection of the memory's keys and values leaves in its result array: the normalised rows of its first argument,
    scaled by the second, times the third. -/

@[expose] public section

set_option maxRecDepth 16384

noncomputable section

namespace Cert.Kernel8Ideal.Project

open Cert.Kernel8Ideal Cert.Kernel8Ideal.Gen Idealize.ShloMosaic Idealize.ShloMosaic.TcCoe Idealize.SL.Sem Cert.Band Cert.NormProduct

variable (m : (ℓ : Loc nD τ sig) → Buf (Elt Ideal) ℓ) (c : Dev nD)

/-- The rows to normalise, as the run finds them. -/
abbrev argX : Mat 1024 2048 := m ((c : Thread nD τ).loc main_arg0)
/-- Their scale. -/
abbrev argG : Row 2048 := m ((c : Thread nD τ).loc main_arg1)
/-- The weights. -/
abbrev argW : Mat 2048 1024 := m ((c : Thread nD τ).loc main_arg2)

/-- What the body stores in its scratch buffer: the normalised rows of the block. -/
theorem pay1_at (x : Vec Ideal S256x2048 .f32) (g : Vec Ideal S1x2048 .f32) (j : S256x2048.Idx) :
    k0_pay1 (F := Ideal) x g j = normed (fun l => x (ix2 (j 0) l)) (fun l => g (ix2 0 l)) (j 1) := by
  pointwise [k0_pay1, normed]

/-- What the body stores in its result block: the scratch buffer times the block of the weights. -/
theorem pay2_at (h : Vec Ideal S256x2048 .bf16) (w : Vec Ideal S2048x1024 .bf16) (j : S256x1024.Idx) :
    k0_pay2 (F := Ideal) h w j = ∑ k : Fin 2048, h (ix2 (j 0) k) * w (ix2 k (j 1)) := by
  pointwise [k0_pay2]

/-- Which block each window stages at point `t`. -/
theorem idx : ∀ t : Fin cfg0.N,
    win0_0.index t = ![t.val, 0] ∧ win0_1.index t = ![0, 0]
    ∧ win0_2.index t = ![0, 0] ∧ win0_3.index t = ![t.val, 0] :=
  (by decide +kernel : ∀ t : Fin grid0.N, _)

theorem blk0 (t : Fin cfg0.N) (y : Fin 256) (l : Fin 2048) (r : Fin 1024) (hr : r.val = t.val * 256 + y.val) :
    (iblk m c 0 t : Vec Ideal S256x2048 .f32) (ix2 y l) = argX m c (ix2 r l) := by
  show V m c main_arg0 (((cfg0.win 0).blk t).view.emb (ix2 y l)) = _
  rw [V_main_arg0]
  refine congrArg (argX m c) ?_
  blk_ext [idx t]

theorem blk1 (t : Fin cfg0.N) (l : Fin 2048) :
    (iblk m c 1 t : Vec Ideal S1x2048 .f32) (ix2 0 l) = argG m c (ix1 l) := by
  show V m c main_v1 (((cfg0.win 1).blk t).view.emb (ix2 0 l)) = _
  simp only [V]
  after_reads_simp
  pointwise
  refine congrArg (argG m c) ?_
  blk_ext [idx t]

theorem blk2 (t : Fin cfg0.N) (k : Fin 2048) (y : Fin 1024) (q : Fin 1024) (hq : q.val = y.val) :
    (iblk m c 2 t : Vec Ideal S2048x1024 .bf16) (ix2 k y) = argW m c (ix2 k q) := by
  show V m c main_v0 (((cfg0.win 2).blk t).view.emb (ix2 k y)) = _
  simp only [V]
  after_reads_simp
  pointwise
  refine congrArg (argW m c) ?_
  blk_ext [idx t]

/-- The result block after point `t`: the normalised rows of its block times the weights. -/
theorem block (t : Fin cfg0.N) (j : S256x1024.Idx) (r : Fin 1024) (hr : r.val = t.val * 256 + (j 0).val) (q : Fin 1024)
    (hq : q.val = (j 1).val) :
    (outsAt0 m c t : Vec Ideal S256x1024 .bf16) j = ∑ k : Fin 2048, rows (argX m c) (argG m c) (ix2 r k) * argW m c (ix2 k q) := by
  unfold outsAt0
  frame_out
  rw [pay2_at]
  refine Finset.sum_congr rfl fun k _ => ?_
  rw [pay1_at]
  refine congrArg₂ (· * ·) ?_ (blk2 m c t k _ _ hq)
  exact congrArg₂ (fun a b => normed a b k) (funext fun l => blk0 m c t _ l r hr) (funext fun l => blk1 m c t l)

/-- The result array, after the run. -/
theorem final : (dats m 0 c).arrAt 3 cfg0.N = NormProduct.G (argX m c) (argG m c) (argW m c) := by
  refine (dats m 0 c).arrAt_eq_of_covers 3 _ (by decide +kernel) fun t _ y => ?_
  blk_simp
  rw [after0_3]
  refine (block m c t _ _ ?_ _ ?_).trans rfl <;> blk_simp [idx t]

end Cert.Kernel8Ideal.Project

end
-- ==== Proof.MemoryProjectionReference.lean ====
module

public import proofs.«01_k».proof.Proof.NormProduct
public import proofs.«01_k».proof.Proof.Gen.Reference8Ideal.Read

/-! What the reference of the projection of the memory's keys and values computes. -/

@[expose] public section

set_option maxRecDepth 16384

noncomputable section

namespace Cert.Reference8Ideal.Project

open Cert.Reference8Ideal Cert.Reference8Ideal.Read Idealize.ShloMosaic Cert.Band Cert.NormProduct

/-- The reference's normalised rows. -/
theorem rows_at (X : Mat 1024 2048) (g : Row 2048) (j : (⟨2, ![1024, 2048]⟩ : Shape).Idx) :
    val_main_v12 (F := Ideal) X g j = rows X g j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rows, normed]

/-- The reference's result. -/
theorem result_at (X : Mat 1024 2048) (g : Row 2048) (W : Mat 2048 1024) :
    val_main_v14 (F := Ideal) X g W = G X g W := by
  funext j
  rw [val_main_v14_apply]
  refine (val_main_v13_apply X g W j).trans ?_
  refine Finset.sum_congr rfl fun k _ => ?_
  rw [rows_at]
  exact congrArg₂ (· * ·) (congrArg _ (eq_ix2 _)) (congrArg W (eq_ix2 _))

end Cert.Reference8Ideal.Project

end
-- ==== Proof.LoraTarget.lean ====
/-
The second stage of the low-rank projections: three products of a row of the first stage's output, one behind a hyperbolic
tangent, one plain, one behind a logistic function, and what is made of each.
-/
module

public import proofs.«01_k».proof.Proof.NormProduct

set_option maxRecDepth 16384

@[expose] public section

noncomputable section

namespace Cert.Lora

open Idealize.ShloMosaic Cert.Band Cert.NormProduct

/-- The logistic function. -/
def sigm (x : EReal) : EReal := Ideal.div 1 (1 + Ideal.exp (-x))

/-- The logarithm of a decay, from its pre-activation: minus the exponential of what is left of the softplus, negated, after
    one half is taken off. -/
def decay (u : EReal) : EReal :=
  -Ideal.exp (-(max (-u) 0 + Ideal.log (1 + Ideal.exp (-max u (-u)))) - Ideal.ofBits .f32 0x3F000000#32)

/-- The decay's entry: a bias and the product of the tangents of columns 0 to 95. -/
def W (T : Mat 16384 512) (A : Mat 96 1536) (g : Row 1536) (j : (⟨2, ![16384, 1536]⟩ : Shape).Idx) : EReal :=
  decay (g (ix1 (j 1)) + ∑ k : Fin 96, Ideal.tanh (T (ix2 (j 0) (Fin.castLE (by omega) k))) * A (ix2 k (j 1)))

/-- The in-context learning rate's entry: a bias and the product of columns 128 to 223. -/
def A (T : Mat 16384 512) (A : Mat 96 1536) (g : Row 1536) (j : (⟨2, ![16384, 1536]⟩ : Shape).Idx) : EReal :=
  sigm (g (ix1 (j 1)) + ∑ k : Fin 96, T (ix2 (j 0) ⟨128 + k.val, by omega⟩) * A (ix2 k (j 1)))

/-- The gate's entry: the product of the logistic function of columns 256 to 511. -/
def G (T : Mat 16384 512) (A : Mat 256 1536) (j : (⟨2, ![16384, 1536]⟩ : Shape).Idx) : EReal :=
  ∑ k : Fin 256, sigm (T (ix2 (j 0) (Fin.natAdd 256 k))) * A (ix2 k (j 1))

/-- A matrix of 96 rows with 32 rows of zeros below it. -/
def padded (A : Mat 96 1536) (k : Fin 128) (q : Fin 1536) : EReal :=
  if h : k.val < 96 then A (ix2 ⟨k.val, h⟩ q) else 0

/-- A product with the zero rows is the product without them. -/
theorem sum_padded (x : Fin 128 → EReal) (A : Mat 96 1536) (q : Fin 1536) :
    ∑ k : Fin 128, x k * padded A k q = ∑ k : Fin 96, x (Fin.castLE (by omega) k) * A (ix2 k q) := by
  rw [show (∑ k : Fin 128, x k * padded A k q) = ∑ k : Fin (96 + 32), x k * padded A k q from rfl, Fin.sum_univ_add]
  have z : ∑ k : Fin 32, x (Fin.natAdd 96 k) * padded A (Fin.natAdd 96 k) q = 0 :=
    Finset.sum_eq_zero fun k _ => by
      unfold padded
      rw [dif_neg (by simp), mul_zero]
  refine (congrArg _ z).trans ((add_zero _).trans (Finset.sum_congr rfl fun k _ => ?_))
  unfold padded
  rw [dif_pos (show (Fin.castAdd 32 k).val < 96 from k.isLt)]
  rfl

end Cert.Lora

end
-- ==== Proof.Lora.lean ====
module

public import proofs.«01_k».proof.Proof.LoraTarget
public import proofs.«01_k».proof.Proof.Gen.Kernel9Ideal.Value
public import Idealize.ShloMosaic.Lib.Pipeline.ValueKit
public import Idealize.ShloMosaic.Lib.StableHlo.ReadAt
public import Idealize.ShloMosaic.Lib.KernelVsHost

/-! What the second stage of the low-rank projections leaves in its three result arrays. -/

@[expose] public section

set_option maxRecDepth 16384

noncomputable section

namespace Cert.Kernel9Ideal.Lora

open Cert.Kernel9Ideal Cert.Kernel9Ideal.Gen Idealize.ShloMosaic Idealize.ShloMosaic.TcCoe Idealize.SL.Sem
open Cert.Band Cert.NormProduct Cert.Lora

variable (m : (ℓ : Loc nD τ sig) → Buf (Elt Ideal) ℓ) (c : Dev nD)

/-- The first stage's output, as the run finds it. -/
abbrev argT : Mat 16384 512 := m ((c : Thread nD τ).loc main_arg0)
/-- The decay's weights. -/
abbrev argW2 : Mat 96 1536 := m ((c : Thread nD τ).loc main_arg1)
/-- The learning rate's weights. -/
abbrev argA2 : Mat 96 1536 := m ((c : Thread nD τ).loc main_arg2)
/-- The gate's weights. -/
abbrev argG2 : Mat 256 1536 := m ((c : Thread nD τ).loc main_arg3)
/-- The decay's bias. -/
abbrev argW0 : Row 1536 := m ((c : Thread nD τ).loc main_arg4)
/-- The learning rate's bias. -/
abbrev argA0 : Row 1536 := m ((c : Thread nD τ).loc main_arg5)

/-- What the body stores in the decay's block. -/
theorem pay_decay (t : Vec Ideal S256x512 .f32) (g : Vec Ideal S1x1536 .f32) (w : Vec Ideal S128x1536 .bf16) (j : S256x1536.Idx) :
    k0_pay5 (F := Ideal) t g w j = decay (g (ix2 0 (j 1))
      + ∑ k : Fin 128, Ideal.tanh (t (ix2 (j 0) (Fin.castLE (by omega) k))) * w (ix2 k (j 1))) := by
  unfold decay
  pointwise [k0_pay5]
  simp only [zero_sub]
  rfl

/-- What the body stores in the learning rate's block. -/
theorem pay_rate (t : Vec Ideal S256x512 .f32) (g : Vec Ideal S1x1536 .f32) (w : Vec Ideal S128x1536 .bf16) (j : S256x1536.Idx) :
    k0_pay1 (F := Ideal) (k0_pay3 t) g w j = sigm (g (ix2 0 (j 1))
      + ∑ k : Fin 128, t (ix2 (j 0) ⟨128 + k.val, by omega⟩) * w (ix2 k (j 1))) := by
  unfold sigm
  pointwise [k0_pay1, k0_pay3]
  simp only [zero_sub]

/-- What the body stores in the gate's block. -/
theorem pay_gate (t : Vec Ideal S256x512 .f32) (w : Vec Ideal S256x1536 .bf16) (j : S256x1536.Idx) :
    k0_pay2 (F := Ideal) (k0_pay4 t) w j
      = ∑ k : Fin 256, sigm (t (ix2 (j 0) (Fin.natAdd 256 k))) * w (ix2 k (j 1)) := by
  unfold sigm
  pointwise [k0_pay2, k0_pay4]
  simp only [zero_sub]
  rfl

/-- Which block each window stages at point `t`. -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

theorem blk0 (t : Fin cfg0.N) (y : Fin 256) (l : Fin 512) (r : Fin 16384) (hr : r.val = t.val * 256 + y.val) :
    (iblk m c 0 t : Vec Ideal S256x512 .f32) (ix2 y l) = argT m c (ix2 r l) := by
  show V m c main_arg0 (((cfg0.win 0).blk t).view.emb (ix2 y l)) = _
  rw [V_main_arg0]
  refine congrArg (argT m c) ?_
  blk_ext [idx t]

/-- The weights with the zero rows, as the host pads them. -/
theorem pad_at (A : FVec Ideal S96x1536 .f32) (z : FVec Ideal S_ .f32) (hz : ∀ i, z i = 0) (k : Fin 128) (q : Fin 1536) :
    pad S128x1536 ![0, 0] ![32, 0] ![0, 0] A z pads_S96x1536_S128x1536_0320_000 h_S_ (ix2 k q) = padded A k q := by
  unfold padded
  split
  · rename_i h
    refine pad_apply_of_inside _ _ _ _ _ _ _ _ (ix2 (⟨k.val, h⟩ : Fin 96) q) fun a => ?_
    match a with
    | ⟨0, _⟩ => show k.val = 0 + k.val * 1; omega
    | ⟨1, _⟩ => show q.val = 0 + q.val * 1; omega
  · rename_i h
    refine (pad_apply_of_not_inside _ _ _ _ _ _ _ _ 0 fun hin => h ?_).trans (hz _)
    have h1 : (k.val - 0) / (0 + 1) < 96 := hin.2.2
    omega

theorem blk1 (t : Fin cfg0.N) (k : Fin 128) (q q' : Fin 1536) (hq : q.val = q'.val) :
    (iblk m c 1 t : Vec Ideal S128x1536 .bf16) (ix2 k q') = padded (argW2 m c) k q := by
  have e : ((cfg0.win 1).blk t).view.emb (ix2 k q') = ix2 k q := by blk_ext [idx t]
  show V m c main_v1 (((cfg0.win 1).blk t).view.emb (ix2 k q')) = _
  rw [e]
  simp only [V]
  after_reads_simp
  refine pad_at (argW2 m c) _ (fun i => ?_) k q
  show (((0#32 : BitVec 32).toInt : ℝ) : EReal) = 0
  simp

theorem blk2 (t : Fin cfg0.N) (k : Fin 128) (q q' : Fin 1536) (hq : q.val = q'.val) :
    (iblk m c 2 t : Vec Ideal S128x1536 .bf16) (ix2 k q') = padded (argA2 m c) k q := by
  have e : ((cfg0.win 2).blk t).view.emb (ix2 k q') = ix2 k q := by blk_ext [idx t]
  show V m c main_v3 (((cfg0.win 2).blk t).view.emb (ix2 k q')) = _
  rw [e]
  simp only [V]
  after_reads_simp
  refine pad_at (argA2 m c) _ (fun i => ?_) k q
  show (((0#32 : BitVec 32).toInt : ℝ) : EReal) = 0
  simp

theorem blk3 (t : Fin cfg0.N) (k : Fin 256) (q q' : Fin 1536) (hq : q.val = q'.val) :
    (iblk m c 3 t : Vec Ideal S256x1536 .bf16) (ix2 k q') = argG2 m c (ix2 k q) := by
  show V m c main_v4 (((cfg0.win 3).blk t).view.emb (ix2 k q')) = _
  simp only [V]
  after_reads_simp
  pointwise
  refine congrArg (argG2 m c) ?_
  blk_ext [idx t]

theorem blk4 (t : Fin cfg0.N) (q q' : Fin 1536) (hq : q.val = q'.val) :
    (iblk m c 4 t : Vec Ideal S1x1536 .f32) (ix2 0 q') = argW0 m c (ix1 q) := by
  show V m c main_v5 (((cfg0.win 4).blk t).view.emb (ix2 0 q')) = _
  simp only [V]
  after_reads_simp
  pointwise
  refine congrArg (argW0 m c) ?_
  blk_ext [idx t]

theorem blk5 (t : Fin cfg0.N) (q q' : Fin 1536) (hq : q.val = q'.val) :
    (iblk m c 5 t : Vec Ideal S1x1536 .f32) (ix2 0 q') = argA0 m c (ix1 q) := by
  show V m c main_v6 (((cfg0.win 5).blk t).view.emb (ix2 0 q')) = _
  simp only [V]
  after_reads_simp
  pointwise
  refine congrArg (argA0 m c) ?_
  blk_ext [idx t]

/-- The decay's array, after the run. -/
theorem final6 : (dats m 0 c).arrAt 6 cfg0.N = W (argT m c) (argW2 m c) (argW0 m c) := by
  refine (dats m 0 c).arrAt_eq_of_covers 6 _ (by decide +kernel) fun t _ y => ?_
  blk_simp
  rw [after0_6]
  frame_out
  have e0 : ((((cfg0.win 6).blk t).view.emb y) 0).val = t.val * 256 + (y 0).val := by
    blk_simp [idx t]
  have e1 : ((((cfg0.win 6).blk t).view.emb y) 1).val = (y 1).val := by
    blk_simp [idx t]
  refine (pay_decay _ _ _ y).trans (congrArg decay (congrArg₂ (· + ·) (blk4 m c t _ _ e1) ?_))
  refine Eq.trans ?_ (sum_padded (fun k => Ideal.tanh (argT m c (ix2 _ (Fin.castLE (by omega) k)))) (argW2 m c) _)
  exact Finset.sum_congr rfl fun k _ =>
    congrArg₂ (· * ·) (congrArg Ideal.tanh (blk0 m c t _ _ _ e0)) (blk1 m c t k _ _ e1)

/-- The learning rate's array, after the run. -/
theorem final7 : (dats m 0 c).arrAt 7 cfg0.N = Lora.A (argT m c) (argA2 m c) (argA0 m c) := by
  refine (dats m 0 c).arrAt_eq_of_covers 7 _ (by decide +kernel) fun t _ y => ?_
  blk_simp
  rw [after0_7]
  frame_out
  have e0 : ((((cfg0.win 7).blk t).view.emb y) 0).val = t.val * 256 + (y 0).val := by
    blk_simp [idx t]
  have e1 : ((((cfg0.win 7).blk t).view.emb y) 1).val = (y 1).val := by
    blk_simp [idx t]
  refine (pay_rate _ _ _ y).trans (congrArg sigm (congrArg₂ (· + ·) (blk5 m c t _ _ e1) ?_))
  refine Eq.trans ?_ (sum_padded (fun k => argT m c (ix2 _ ⟨128 + k.val, by omega⟩)) (argA2 m c) _)
  exact Finset.sum_congr rfl fun k _ => congrArg₂ (· * ·) (blk0 m c t _ _ _ e0) (blk2 m c t k _ _ e1)

/-- The gate's array, after the run. -/
theorem final8 : (dats m 0 c).arrAt 8 cfg0.N = Lora.G (argT m c) (argG2 m c) := by
  refine (dats m 0 c).arrAt_eq_of_covers 8 _ (by decide +kernel) fun t _ y => ?_
  blk_simp
  rw [after0_8]
  frame_out
  have e0 : ((((cfg0.win 8).blk t).view.emb y) 0).val = t.val * 256 + (y 0).val := by
    blk_simp [idx t]
  have e1 : ((((cfg0.win 8).blk t).view.emb y) 1).val = (y 1).val := by
    blk_simp [idx t]
  refine (pay_gate _ _ y).trans (Finset.sum_congr rfl fun k _ => ?_)
  exact congrArg₂ (· * ·) (congrArg sigm (blk0 m c t _ _ _ e0)) (blk3 m c t k _ _ e1)

end Cert.Kernel9Ideal.Lora

end
-- ==== Proof.LoraReference.lean ====
module

public import proofs.«01_k».proof.Proof.LoraTarget
public import proofs.«01_k».proof.Proof.Gen.Reference9Ideal.Read

/-! What the reference of the second stage of the low-rank projections computes. -/

@[expose] public section

set_option maxRecDepth 16384

noncomputable section

namespace Cert.Reference9Ideal.Lora

open Cert.Reference9Ideal Cert.Reference9Ideal.Read Idealize.ShloMosaic Cert.Band Cert.NormProduct Cert.Lora

variable (T : Mat 16384 512)

/-- The pre-activation of the decay. -/
theorem pre_at (A : Mat 96 1536) (g : Row 1536) (j : (⟨2, ![16384, 1536]⟩ : Shape).Idx) :
    val_main_v7 (F := Ideal) T A g j = g (ix1 (j 1))
      + ∑ k : Fin 96, Ideal.tanh (T (ix2 (j 0) (Fin.castLE (by omega) k))) * A (ix2 k (j 1)) := by
  pointwise [val_main_v7, val_main_v6, val_main_v5, val_main_v4, val_main_v3, val_main_v0]
  rfl

/-- The softplus of the negated pre-activation. -/
theorem softplus_at (A : Mat 96 1536) (g : Row 1536) (j : (⟨2, ![16384, 1536]⟩ : Shape).Idx) (u : EReal)
    (hu : val_main_v7 (F := Ideal) T A g j = u) :
    val_main_v9 (F := Ideal) T A g j = max (-u) 0 + Ideal.log (1 + Ideal.exp (-max u (-u))) := by
  have h3 : val_main_call0_v3 (F := Ideal) T A g j = -u := by
    rw [val_main_call0_v3_apply, val_main_v8_apply, hu, val_main_call0_v2_apply, val_main_call0_cst_apply]
    pointwise
  have h4 : val_main_call0_v4 (F := Ideal) T A g j = 0#1 := by
    rw [val_main_call0_v4_apply, h3]
    simp [Ideal.cmpf_def, Ideal.cmp]
  rw [val_main_v9_apply, h4]
  show val_main_call0_v11 (F := Ideal) T A g j = _
  rw [val_main_call0_v11_apply, val_main_call0_v1_apply, val_main_v8_apply, hu, val_main_call0_v0_apply, val_main_call0_cst_apply,
    val_main_call0_v10_apply, val_main_call0_v9_apply, val_main_call0_v8_apply, val_main_call0_v7_apply, h3]
  pointwise
  show _ + Ideal.log (1 + Ideal.exp (-max (-u) (- -u))) = _
  rw [neg_neg, max_comm (-u) u]

/-- The decay. -/
theorem decay_at (A : Mat 96 1536) (g : Row 1536) : val_main_v31 (F := Ideal) T A g = W T A g := by
  funext j
  unfold W decay
  rw [← softplus_at T A g j _ (pre_at T A g j)]
  pointwise [val_main_v31, val_main_v30, val_main_v12, val_main_v11, val_main_v10, val_main_cst]

/-- The in-context learning rate. -/
theorem rate_at (A : Mat 96 1536) (g : Row 1536) : val_main_v22 (F := Ideal) T A g = Lora.A T A g := by
  funext j
  unfold Lora.A sigm
  pointwise [val_main_v22, val_main_v21, val_main_v20, val_main_v19, val_main_v18, val_main_v17, val_main_v16, val_main_v15,
    val_main_v14, val_main_v13, val_main_v1, val_main_cst_0, val_main_cst_1]

/-- The gate. -/
theorem gate_at (A : Mat 256 1536) : val_main_v29 (F := Ideal) T A = Lora.G T A := by
  funext j
  unfold Lora.G sigm
  pointwise [val_main_v29, val_main_v28, val_main_v27, val_main_v26, val_main_v25, val_main_v24, val_main_v23, val_main_v2,
    val_main_cst_2, val_main_cst_3]
  rfl

end Cert.Reference9Ideal.Lora

end
-- ==== Proof.MixTilesProduct.lean ====
/-
The first stage of the low-rank projections: three products of mixed rows, with three sets of mixing weights, side by side. The
first two have 96 columns, with 32 columns of zeros behind them, and the third has 256.
-/
module

public import proofs.«01_k».proof.Proof.MixProduct

set_option maxRecDepth 16384

@[expose] public section

noncomputable section

namespace Cert.MixTiles

open Idealize.ShloMosaic Cert.Band Cert.NormProduct Cert.MixProduct

/-- The mixing weights that a tile of 128 columns takes: row 1, row 4, and row 5 twice. -/
def tile (n : ℕ) : ℕ := if n = 0 then 1 else if n = 1 then 4 else 5

/-- A matrix of 96 columns with 32 columns of zeros behind it. -/
def padded (A : Mat 2048 96) (k : Fin 2048) (n : ℕ) : EReal :=
  if h : n < 96 then A (ix2 k ⟨n, h⟩) else 0

/-- The three weights side by side, the first two with zeros behind them. -/
def cols (U V : Mat 2048 96) (W : Mat 2048 256) (k : Fin 2048) (q : Fin 512) : EReal :=
  if q.val < 128 then padded U k q.val else if q.val < 256 then padded V k (q.val - 128)
    else W (ix2 k ⟨q.val - 256, by omega⟩)

/-- The mixed rows times the weights. -/
def G (H : Mat 16384 2048) (A : Mat 6 2048) (U V : Mat 2048 96) (W : Mat 2048 256) (j : (⟨2, ![16384, 512]⟩ : Shape).Idx) : EReal :=
  ∑ k : Fin 2048, mixed H A (tile ((j 1).val / 128)) (j 0) k * cols U V W k (j 1)

end Cert.MixTiles

end
-- ==== Proof.MixTilesTable.lean ====
module

public import proofs.«01_k».proof.Proof.MixTilesProduct
public import proofs.«01_k».proof.Proof.Gen.Kernel10.Frame
public import proofs.«01_k».proof.Proof.Gen.Kernel10Ideal.Frame
public import Idealize.ShloMosaic.Lib.Pipeline.ValueKit
public import Idealize.ShloMosaic.Lib.StableHlo.ReadAt

/-! The table of mixing weights that the first stage of the low-rank projections prefetches, a constant: with it the blocks that its index map names lie
    inside their array, and the body mixes anew at every tile but the last, which shares its mixture with the one before. -/

@[expose] public section

set_option maxRecDepth 16384

noncomputable section

namespace Cert.Kernel10Ideal.MixTiles

open Cert.Kernel10Ideal Cert.Kernel10Ideal.Gen Idealize.ShloMosaic Idealize.ShloMosaic.TcCoe Idealize.SL.Sem Cert.MixTiles

variable (m : (ℓ : Loc nD τ sig) → Buf (Elt Ideal) ℓ)

/-- The table, as the host writes it. -/
def table : pre0.Contents (Elt Ideal) := fun | 0 => fun i => lit0 (S4.rowMajor i)

/-- The call finds the table in place. -/
theorem tbl_eq : tbl m = table := by
  funext j
  match j with
  | 0 =>
    simp only [tbl, V]
    after_reads_simp
    rfl

/-- Which row of mixing weights is staged at a point. -/
theorem row_at : ∀ i : grid0.Coords, cc0_transform_2 k0_off1_inb numel1_S1 table i = ![tile (i 1).val, 0, 0] := by
  decide +kernel

/-- Those rows lie inside their array. -/
theorem ok : Ok m := by
  unfold Ok ok0
  rw [tbl_eq]
  intro i
  refine ⟨?_, .inl rfl⟩
  revert i
  decide +kernel

/-- Where the body mixes anew, by the grid's coordinates. -/
theorem group_at : ∀ i : grid0.Coords,
    cond0_1 i
      (tbM0_0.view.readAt (Elt Ideal) (Rect.unit (s := S4) (k0_off1 i) S1.size (k0_off1_inb i)).toLoadRect (table 0)
        (Shape.Idx.first (numel1_S1.symm ▸ Nat.one_pos)))
      (tbM0_0.view.readAt (Elt Ideal) (Rect.unit (s := S4) (k0_off2 i) S1.size (k0_off2_inb i)).toLoadRect (table 0)
        (Shape.Idx.first (numel1_S1.symm ▸ Nat.one_pos)))
    ↔ (i 1).val < 3 := by
  decide +kernel

/-- A point's second coordinate. -/
theorem second : ∀ t : Fin grid0.N, ((grid0.coords t) 1).val = t.val % 4 := by
  decide +kernel

/-- Where the body mixes anew, by the point. -/
theorem group (t : Fin grid0.N) :
    cond0_1 (grid0.coords t)
      (tbM0_0.view.readAt (Elt Ideal) (Rect.unit (s := S4) (k0_off1 (grid0.coords t)) S1.size (k0_off1_inb (grid0.coords t))).toLoadRect
        (tbl m 0) (Shape.Idx.first (numel1_S1.symm ▸ Nat.one_pos)))
      (tbM0_0.view.readAt (Elt Ideal) (Rect.unit (s := S4) (k0_off2 (grid0.coords t)) S1.size (k0_off2_inb (grid0.coords t))).toLoadRect
        (tbl m 0) (Shape.Idx.first (numel1_S1.symm ▸ Nat.one_pos)))
    ↔ t.val % 4 < 3 := by
  rw [tbl_eq, ← second t]
  exact group_at _

/-- The first tile of a block of rows mixes anew. -/
theorem hyps : Hyps m (ok m) :=
  Hyps.of fun _ t h0 h1 => absurd ((group m t).2 (by rw [(hcond0_0 t).1 h0]; decide)) h1

end Cert.Kernel10Ideal.MixTiles

namespace Cert.Kernel10.MixTiles

open Cert.Kernel10 Cert.Kernel10.Gen Idealize.ShloMosaic Idealize.ShloMosaic.TcCoe Idealize.SL.Sem

variable (m : (ℓ : Loc nD τ sig) → Buf (Elt Bits) ℓ)

/-- The table, as the host of the kernel itself writes it. -/
def table : pre0.Contents (Elt Bits) := fun | 0 => fun i => lit0 (S4.rowMajor i)

/-- The call finds the table in place. -/
theorem tbl_eq : tbl m = table := by
  funext j
  match j with
  | 0 =>
    simp only [tbl, V]
    after_reads_simp
    rfl

/-- The rows of mixing weights that it names lie inside their array. -/
theorem ok : Ok m := by
  unfold Ok ok0
  rw [tbl_eq]
  intro i
  refine ⟨?_, .inl rfl⟩
  revert i
  decide +kernel

/-- The first tile of a block of rows mixes anew, by the grid's coordinates. -/
theorem group_at : ∀ i : grid0.Coords, cond0_0 i →
    cond0_1 i
      (tbM0_0.view.readAt (Elt Bits) (Rect.unit (s := S4) (k0_off1 i) S1.size (k0_off1_inb i)).toLoadRect (table 0)
        (Shape.Idx.first (numel1_S1.symm ▸ Nat.one_pos)))
      (tbM0_0.view.readAt (Elt Bits) (Rect.unit (s := S4) (k0_off2 i) S1.size (k0_off2_inb i)).toLoadRect (table 0)
        (Shape.Idx.first (numel1_S1.symm ▸ Nat.one_pos))) := by
  decide +kernel

/-- So the side condition of the body holds. -/
theorem hyps : Hyps m (ok m) :=
  Hyps.of fun _ t h0 h1 => absurd (by rw [tbl_eq]; exact group_at _ h0) h1

end Cert.Kernel10.MixTiles

end
-- ==== Proof.MixTiles.lean ====
module

public import proofs.«01_k».proof.Proof.MixTilesTable
public import proofs.«01_k».proof.Proof.Mix
public import Idealize.ShloMosaic.Lib.KernelVsHost

/-! What the first stage of the low-rank projections leaves in its result array. -/

@[expose] public section

set_option maxRecDepth 16384

noncomputable section

namespace Cert.Kernel10Ideal.MixTiles

open Cert.Kernel10Ideal Cert.Kernel10Ideal.Gen Idealize.ShloMosaic Idealize.ShloMosaic.TcCoe Idealize.SL.Sem Cert.Band Cert.NormProduct
  Cert.MixTiles
open Cert.MixProduct hiding G

variable (m : (ℓ : Loc nD τ sig) → Buf (Elt Ideal) ℓ) (c : Dev nD)

/-- The rows to mix, as the run finds them. -/
abbrev argH : Mat 16384 2048 := m ((c : Thread nD τ).loc main_arg0)
/-- The mixing weights. -/
abbrev argA : Mat 6 2048 := m ((c : Thread nD τ).loc main_arg1)
/-- The weights of the first product. -/
abbrev argU : Mat 2048 96 := m ((c : Thread nD τ).loc main_arg2)
/-- The weights of the second. -/
abbrev argV : Mat 2048 96 := m ((c : Thread nD τ).loc main_arg3)
/-- The weights of the third. -/
abbrev argW : Mat 2048 256 := m ((c : Thread nD τ).loc main_arg4)

/-- What the body stores in its second scratch buffer: each row of the block taken from the row before it, which for the
    first row is in another block, or zero at the beginning of a sequence. -/
theorem pay1_at (i : grid0.Coords) (x : Vec Ideal S1024x2048 .f32) (p : Vec Ideal S1x2048 .f32) (j : S1024x2048.Idx) :
    k0_pay1 (F := Ideal) i x p j
      = (if (j 0).val = 0 then if (i 0).val % 4 = 0 then 0 else p (ix2 0 (j 1))
          else x (ix2 ⟨((j 0).val + 1024 - 1) % 1024, Nat.mod_lt _ (by decide)⟩ (j 1))) - x j := by
  pointwise [k0_pay1]
  rw [Cert.Kernel6Ideal.Mix.starts (i 0), Cert.Kernel6Ideal.Mix.top (j 0)]
  congr 1
  by_cases h0 : (j 0).val = 0 <;> by_cases h1 : (i 0).val % 4 = 0 <;> simp [h0, h1, Scalar.select]

/-- What the body stores in its first scratch buffer: the rows of the block, moved. -/
theorem pay2_at (h d : Vec Ideal S1024x2048 .f32) (a : Vec Ideal S1x1x2048 .f32) (j : S1024x2048.Idx) :
    k0_pay2 (F := Ideal) h d a j = h j + d j * a (ix3 0 0 (j 1)) := by
  pointwise [k0_pay2]

/-- What the body stores in its result block: the first scratch buffer times the block of the weights. -/
theorem pay3_at (h : Vec Ideal S1024x2048 .bf16) (w : Vec Ideal S2048x128 .bf16) (j : S1024x128.Idx) :
    k0_pay3 (F := Ideal) h w j = ∑ k : Fin 2048, h (ix2 (j 0) k) * w (ix2 k (j 1)) := by
  pointwise [k0_pay3]

variable (hO : Ok m)

/-- Which block each window stages at point `t`, of the windows that do not depend on the table. -/
theorem idx : ∀ t : Fin (cfgM m hO).N,
    ((cfgM m hO).win 0).index t = ![t.val / 4, 0]
    ∧ ((cfgM m hO).win 1).index t = ![t.val / 4 * 128 - 1, 0]
    ∧ ((cfgM m hO).win 3).index t = ![0, t.val % 4]
    ∧ ((cfgM m hO).win 4).index t = ![t.val / 4, t.val % 4] :=
  (by decide +kernel : ∀ t : Fin grid0.N, cc0_transform_0 (grid0.coords t) = ![t.val / 4, 0] ∧
    cc0_transform_1 (grid0.coords t) = ![t.val / 4 * 128 - 1, 0] ∧
    cc0_transform_3 (grid0.coords t) = ![0, t.val % 4] ∧ cc0_transform_4 (grid0.coords t) = ![t.val / 4, t.val % 4])

/-- A point's first coordinate. -/
theorem firstCoord : ∀ t : Fin grid0.N, ((grid0.coords t) 0).val = t.val / 4 := by
  decide +kernel

/-- Which row of mixing weights is staged at point `t`. -/
theorem idx2 (t : Fin (cfgM m hO).N) : ((cfgM m hO).win 2).index t = ![tile (t.val % 4), 0, 0] := by
  show cc0_transform_2 k0_off1_inb numel1_S1 (tbl m) (grid0.coords t) = _
  rw [tbl_eq, row_at, second]

theorem blk0 (t : Fin (cfgM m hO).N) (y : Fin 1024) (l : Fin 2048) (r : Fin 16384) (hr : r.val = t.val / 4 * 1024 + y.val) :
    (iblk m hO c 0 t : Vec Ideal S1024x2048 .f32) (ix2 y l) = argH m c (ix2 r l) := by
  show V m c main_arg0 ((((cfgM m hO).win 0).blk t).view.emb (ix2 y l)) = _
  rw [V_main_arg0]
  refine congrArg (argH m c) ?_
  blk_ext [idx m hO t]

theorem blk1 (t : Fin (cfgM m hO).N) (l : Fin 2048) (r : Fin 16384) (h : ¬ t.val / 4 % 4 = 0) (hr : r.val = t.val / 4 * 1024 - 1) :
    (iblk m hO c 1 t : Vec Ideal S8x2048 .f32) (ix2 7 l) = argH m c (ix2 r l) := by
  show V m c main_arg0 ((((cfgM m hO).win 1).blk t).view.emb (ix2 7 l)) = _
  rw [V_main_arg0]
  refine congrArg (argH m c) ?_
  blk_ext [idx m hO t]

theorem blk2 (t : Fin (cfgM m hO).N) (l : Fin 2048) :
    (iblk m hO c 2 t : Vec Ideal S1x1x2048 .f32) (ix3 0 0 l) = weight (argA m c) (tile (t.val % 4)) l := by
  show V m c main_v6 ((((cfgM m hO).win 2).blk t).view.emb (ix3 0 0 l)) = _
  have e : (((cfgM m hO).win 2).blk t).view.emb (ix3 0 0 l)
      = ix3 (⟨tile (t.val % 4), by unfold tile; split_ifs <;> omega⟩ : Fin 7) (0 : Fin 1) l := by
    blk_ext [idx2 m hO t]
  rw [e]
  simp only [V]
  after_reads_simp
  pointwise [weight]
  after_reads_simp
  split
  · rfl
  · pointwise

/-- Weights with the zero columns, as the host pads them. -/
theorem pad_at (A : FVec Ideal S2048x96 .f32) (z : FVec Ideal S_ .f32) (hz : ∀ i, z i = 0) (k : Fin 2048) (q : Fin 128) :
    pad S2048x128 ![0, 0] ![0, 32] ![0, 0] A z pads_S2048x96_S2048x128_000_0320 h_S_ (ix2 k q) = padded A k q.val := by
  unfold padded
  split
  · rename_i h
    refine pad_apply_of_inside _ _ _ _ _ _ _ _ (ix2 k (⟨q.val, h⟩ : Fin 96)) fun a => ?_
    match a with
    | ⟨0, _⟩ => show k.val = 0 + k.val * 1; omega
    | ⟨1, _⟩ => show q.val = 0 + q.val * 1; omega
  · rename_i h
    refine (pad_apply_of_not_inside _ _ _ _ _ _ _ _ 1 fun hin => h ?_).trans (hz _)
    have h1 : (q.val - 0) / (0 + 1) < 96 := hin.2.2
    omega

theorem blk3 (t : Fin (cfgM m hO).N) (k : Fin 2048) (y : Fin 128) (q : Fin 512) (hq : q.val = t.val % 4 * 128 + y.val) :
    (iblk m hO c 3 t : Vec Ideal S2048x128 .bf16) (ix2 k y) = cols (argU m c) (argV m c) (argW m c) k q := by
  have e : (((cfgM m hO).win 3).blk t).view.emb (ix2 k y) = ix2 k q := by blk_ext [idx m hO t]
  show V m c main_v5 ((((cfgM m hO).win 3).blk t).view.emb (ix2 k y)) = _
  rw [e]
  simp only [V]
  after_reads_simp
  pointwise
  have hz : (((0#32 : BitVec 32).toInt : ℝ) : EReal) = 0 := by simp
  unfold cols
  by_cases h0 : q.val < 128
  · rw [dif_pos h0, if_pos h0]
    after_reads_simp
    exact pad_at (argU m c) _ (fun _ => hz) k ⟨q.val, h0⟩
  · rw [dif_neg h0, if_neg h0]
    by_cases h1 : q.val < 256
    · rw [dif_pos (by omega), if_pos h1]
      after_reads_simp
      exact pad_at (argV m c) _ (fun _ => hz) k ⟨q.val - 128, by omega⟩
    · rw [dif_neg (by omega), if_neg h1]
      after_reads_simp
      exact congrArg (argW m c) (congrArg (ix2 k) (Fin.ext (Nat.sub_sub q.val 128 128)))

variable (hH : Hyps m hO)

/-- The second scratch buffer after the first point of a block of rows. -/
theorem first (t : Fin (cfgM m hO).N) (h : t.val % 4 = 0) (y : Fin 1024) (l : Fin 2048) (r : Fin 16384)
    (hr : r.val = t.val / 4 * 1024 + y.val) :
    (outsAt0 m hO hH c t.val t.isLt).2.2 (ix2 y l) = before (argH m c) r l - argH m c (ix2 r l) := by
  obtain ⟨x0, hx0⟩ : ∃ x : Vec Ideal S1024x2048 .f32, iblk m hO c 0 t = x := ⟨_, rfl⟩
  obtain ⟨x1, hx1⟩ : ∃ x : Vec Ideal S8x2048 .f32, iblk m hO c 1 t = x := ⟨_, rfl⟩
  have e0 := blk0 m c hO t y l r hr
  rw [outsAt0_A m hO hH c t h ((group m t).2 (by omega)), hx0, hx1]
  frame_out
  rw [pay1_at]
  have hy := y.isLt
  rw [hx0] at e0
  have hc := firstCoord t
  have e1 : View.ld x1 (Rect.unit ![7, 0] ![1, 2048] inb_S8x2048_S1x2048_7_0) (ix2 0 l)
      = x1 (ix2 7 l) := by
    refine congrArg x1 (funext fun a => Fin.ext ((Rect.idx_unit_val _ _ _ _ a).trans ?_))
    match a with
    | ⟨0, _⟩ => rfl
    | ⟨1, _⟩ => exact Nat.zero_add l.val
  refine congrArg₂ (fun a b : EReal => a - b) ?_ e0
  show (if y.val = 0 then if (grid0.coords t 0).val % 4 = 0 then 0 else _ else _) = _
  unfold before
  rw [hc]
  by_cases hy0 : y.val = 0
  · by_cases h4 : t.val / 4 % 4 = 0
    · rw [if_pos hy0, if_pos h4, if_pos (by omega)]
    · rw [if_pos hy0, if_neg h4, if_neg (by omega)]
      refine e1.trans ((congrFun hx1.symm _).trans ((blk1 m c hO t l ⟨r.val - 1, by omega⟩ h4 (by show r.val - 1 = _; omega)).trans ?_))
      exact rd_ix2 _ _ _
  · rw [if_neg hy0, if_neg (by omega)]
    refine (congrFun hx0.symm _).trans ((blk0 m c hO t ⟨(y.val + 1024 - 1) % 1024, _⟩ l ⟨r.val - 1, by omega⟩ (by
      show r.val - 1 = t.val / 4 * 1024 + (y.val + 1024 - 1) % 1024; omega)).trans ?_)
    exact rd_ix2 _ _ _

/-- The other points leave the second scratch buffer alone. -/
theorem next (n : ℕ) (hn : n + 1 < (cfgM m hO).N) (h : ¬ (n + 1) % 4 = 0) :
    (outsAt0 m hO hH c (n + 1) hn).2.2 = (outsAt0 m hO hH c n (Nat.lt_of_succ_lt hn)).2.2 := by
  by_cases h1 : (n + 1) % 4 < 3
  · rw [outsAt0_C m hO hH c ⟨n + 1, hn⟩ h ((group m ⟨n + 1, hn⟩).2 h1)]
    dsimp only
    unfold sout0_C_1
    rfl
  · rw [outsAt0_D m hO hH c ⟨n + 1, hn⟩ h (fun hc => h1 ((group m ⟨n + 1, hn⟩).1 hc))]
    dsimp only
    unfold sout0_D_1
    rfl

/-- The second scratch buffer after point `n`. -/
theorem second_scratch (n : ℕ) (hn : n < (cfgM m hO).N) (y : Fin 1024) (l : Fin 2048) (r : Fin 16384)
    (hr : r.val = n / 4 * 1024 + y.val) :
    (outsAt0 m hO hH c n hn).2.2 (ix2 y l) = before (argH m c) r l - argH m c (ix2 r l) :=
  carried 4 (fun n h => (outsAt0 m hO hH c n h).2.2)
    (fun b v => ∀ r : Fin 16384, r.val = b * 1024 + y.val → v (ix2 y l) = before (argH m c) r l - argH m c (ix2 r l))
    (fun n h h0 r hr => first m c hO hH ⟨n, h⟩ h0 y l r hr) (next m c hO hH) n hn r hr

/-- Where a group begins, the first scratch buffer is made of the second, as the point leaves it. -/
theorem begins (t : Fin (cfgM m hO).N) (h : t.val % 4 < 3) (y : Fin 1024) (l : Fin 2048) (r : Fin 16384)
    (hr : r.val = t.val / 4 * 1024 + y.val) :
    (outsAt0 m hO hH c t.val t.isLt).2.1 (ix2 y l)
      = argH m c (ix2 r l)
        + ((outsAt0 m hO hH c t.val t.isLt).2.2 (ix2 y l) : EReal) * weight (argA m c) (tile (t.val % 4)) l := by
  rw [← blk0 m c hO t y l r hr, ← blk2 m c hO t l]
  obtain ⟨x0, hx0⟩ : ∃ x : Vec Ideal S1024x2048 .f32, iblk m hO c 0 t = x := ⟨_, rfl⟩
  obtain ⟨x1, hx1⟩ : ∃ x : Vec Ideal S8x2048 .f32, iblk m hO c 1 t = x := ⟨_, rfl⟩
  obtain ⟨x2, hx2⟩ : ∃ x : Vec Ideal S1x1x2048 .f32, iblk m hO c 2 t = x := ⟨_, rfl⟩
  by_cases h0 : t.val % 4 = 0
  · rw [outsAt0_A m hO hH c t h0 ((group m t).2 h), hx0, hx1, hx2]
    frame_out
    exact pay2_at _ _ _ (ix2 y l)
  · rw [outsAt0_C m hO hH c t h0 ((group m t).2 h), hx0, hx1, hx2]
    frame_out
    rw [(Memref.isWhole_whole cc0_scratch1).read_unread]
    exact pay2_at _ _ _ (ix2 y l)

/-- The first scratch buffer after point `n`: the rows of the block, moved by the mixing weights of the point's tile. -/
theorem scratch : ∀ (n : ℕ) (hn : n < (cfgM m hO).N) (y : Fin 1024) (l : Fin 2048) (r : Fin 16384),
    r.val = n / 4 * 1024 + y.val →
    (outsAt0 m hO hH c n hn).2.1 (ix2 y l) = mixed (argH m c) (argA m c) (tile (n % 4)) r l
  | n, hn, y, l, r, hr => by
    by_cases h : n % 4 < 3
    · refine (begins m c hO hH ⟨n, hn⟩ h y l r hr).trans ?_
      rw [second_scratch m c hO hH n hn y l r hr]
      rfl
    · obtain ⟨k, rfl⟩ : ∃ k, n = k + 1 := ⟨n - 1, by omega⟩
      have e : tile ((k + 1) % 4) = tile (k % 4) := by
        unfold tile
        split_ifs <;> omega
      rw [outsAt0_D m hO hH c ⟨k + 1, hn⟩ (by show ¬ (k + 1) % 4 = 0; omega) (fun hc => h ((group m ⟨k + 1, hn⟩).1 hc))]
      dsimp only
      unfold sout0_D_0
      rw [e]
      exact scratch k _ y l r (by omega)

/-- The result block after point `t`: the first scratch buffer, as the point leaves it, times the block of the weights. -/
theorem block (t : Fin (cfgM m hO).N) (w : Vec Ideal S2048x128 .bf16) (hw : iblk m hO c 3 t = w) (j : S1024x128.Idx) :
    (outsAt0 m hO hH c t.val t.isLt).1 j = ∑ k : Fin 2048,
      ((outsAt0 m hO hH c t.val t.isLt).2.1 (ix2 (j 0) k) : EReal) * w (ix2 k (j 1)) := by
  obtain ⟨x0, hx0⟩ : ∃ x : Vec Ideal S1024x2048 .f32, iblk m hO c 0 t = x := ⟨_, rfl⟩
  obtain ⟨x1, hx1⟩ : ∃ x : Vec Ideal S8x2048 .f32, iblk m hO c 1 t = x := ⟨_, rfl⟩
  obtain ⟨x2, hx2⟩ : ∃ x : Vec Ideal S1x1x2048 .f32, iblk m hO c 2 t = x := ⟨_, rfl⟩
  by_cases h : t.val % 4 < 3
  · by_cases h0 : t.val % 4 = 0
    · rw [outsAt0_A m hO hH c t h0 ((group m t).2 h), hx0, hx1, hx2, hw]
      frame_out
      exact pay3_at _ _ j
    · rw [outsAt0_C m hO hH c t h0 ((group m t).2 h), hx0, hx1, hx2, hw]
      frame_out
      exact pay3_at _ _ j
  · rw [outsAt0_D m hO hH c t (by omega) (fun hc => h ((group m t).1 hc)), hx0, hx1, hx2, hw]
    frame_out
    rw [(Memref.isWhole_whole cc0_scratch0).read_unread]
    unfold sout0_D_0
    exact pay3_at _ _ j

/-- The result blocks fill the result array. -/
theorem covers : ((cfgM m hO).win 4).Covers := by
  refine ⟨?_, fun β => ?_⟩
  · show ∀ a : Fin 2, 0 < S1024x128.size a
    decide
  · have h0 : (β (0 : Fin 2)).val < 16 := Nat.lt_of_lt_of_eq (β (0 : Fin 2)).isLt (by
      show (S16384x512.size 0 + S1024x128.size 0 - 1) / S1024x128.size 0 = 16; decide)
    have h1 : (β (1 : Fin 2)).val < 4 := Nat.lt_of_lt_of_eq (β (1 : Fin 2)).isLt (by
      show (S16384x512.size 1 + S1024x128.size 1 - 1) / S1024x128.size 1 = 4; decide)
    have hN : (cfgM m hO).N = 64 := N_0
    refine ⟨⟨(β (0 : Fin 2)).val * 4 + (β (1 : Fin 2)).val, by show _ < (cfgM m hO).N; omega⟩, flush0_4 (adm m hO) _, fun a => ⟨?_, .inl rfl⟩⟩
    rw [(idx m hO _).2.2.2]
    match a with
    | ⟨0, _⟩ => show (_ * 4 + _) / 4 = (β (0 : Fin 2)).val; omega
    | ⟨1, _⟩ => show (_ * 4 + _) % 4 = (β (1 : Fin 2)).val; omega

/-- Point `t` writes back its block of the mixed product. -/
theorem result (t : Fin (cfgM m hO).N) (y : S1024x128.Idx) :
    (outsAt0 m hO hH c t.val t.isLt).1 y
      = MixTiles.G (argH m c) (argA m c) (argU m c) (argV m c) (argW m c) ((((cfgM m hO).win 4).blk t).view.emb y) := by
  have ht : t.val < 64 := Nat.lt_of_lt_of_eq t.isLt N_0
  have hy : (y 0).val < 1024 := (y 0).isLt
  have hz : (y 1).val < 128 := (y 1).isLt
  have e : (((cfgM m hO).win 4).blk t).view.emb y
      = ix2 (⟨t.val / 4 * 1024 + (y 0).val, by omega⟩ : Fin 16384) (⟨t.val % 4 * 128 + (y 1).val, by omega⟩ : Fin 512) := by
    blk_ext [idx m hO t]
  rw [e]
  refine (block m c hO hH t _ rfl y).trans ?_
  refine Fin.sum_fin_congr fun k => ?_
  refine congrArg₂ (· * ·) ((scratch m c hO hH t.val t.isLt _ k ⟨t.val / 4 * 1024 + (y 0).val, by omega⟩ rfl).trans ?_) (blk3 m c hO t k _ ⟨t.val % 4 * 128 + (y 1).val, by omega⟩ rfl)
  refine congrArg (fun n => mixed (argH m c) (argA m c) (tile n) _ k) ?_
  show t.val % 4 = (t.val % 4 * 128 + (y 1).val) / 128
  omega

/-- The result array, after the run. -/
theorem final : (dats m hO hH 0 c).arrAt 4 (cfgM m hO).N = MixTiles.G (argH m c) (argA m c) (argU m c) (argV m c) (argW m c) := by
  refine (dats m hO hH 0 c).arrAt_eq_of_covers 4 _ (covers m hO) fun t _ y => ?_
  blk_simp
  rw [after0_4]
  exact result m c hO hH t y

/-- The run ends with the mixed product in the result array and the arguments as they were. -/
theorem run (ρ : Dev nD → PrngReg) :
    θ_run defs (onTc (τ := τ) (main (F := Ideal))) ⟨m, fun _ => 0, ρ⟩ (fun r => ∀ c : Dev nD,
      r.2.mem ((c : Thread nD τ).loc main_v7) = MixTiles.G (argH m c) (argA m c) (argU m c) (argV m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h.1 c).1 4).trans (final m c (ok m) (hyps m)), h.2 c⟩)
    (θ_run_and (run_main m ρ (ok m) (hyps m)) (unchanged m ρ (ok m) (hyps m)))

end Cert.Kernel10Ideal.MixTiles

end
-- ==== Proof.MixTilesReference.lean ====
module

public import proofs.«01_k».proof.Proof.MixTilesProduct
public import proofs.«01_k».proof.Proof.Gen.Reference10Ideal.Read
public import Idealize.ShloMosaic.Lib.KernelVsHost

/-! What the reference of the first stage of the low-rank projections computes. -/

@[expose] public section

set_option maxRecDepth 16384

noncomputable section

namespace Cert.Reference10Ideal.MixTiles

open Cert.Reference10Ideal Cert.Reference10Ideal.Read Idealize.ShloMosaic Cert.Band Cert.NormProduct Cert.MixTiles
open Cert.MixProduct hiding G

variable (H : Mat 16384 2048) (A : Mat 6 2048) (U V : Mat 2048 96) (W : Mat 2048 256)

/-- The rows as four sequences of 4096. -/
theorem seq_at (b : Fin 4) (s : Fin 4096) (l : Fin 2048) (r : Fin 16384) (hr : r.val = b.val * 4096 + s.val) :
    val_main_v0 (F := Ideal) H (ix3 b s l) = H (ix2 r l) := by
  rw [val_main_v0_apply]
  have hl := l.isLt
  refine congrArg H (funext fun a => Fin.ext ?_)
  match a with
  | ⟨0, _⟩ => show ((b.val * 4096 + s.val) * 2048 + l.val) / 2048 = r.val; omega
  | ⟨1, _⟩ => show ((b.val * 4096 + s.val) * 2048 + l.val) % 2048 = l.val; omega

/-- The sequences moved one row down, with zeros in front. -/
theorem before_at (b : Fin 4) (s : Fin 4096) (l : Fin 2048) (r : Fin 16384) (hr : r.val = b.val * 4096 + s.val) :
    val_main_v2 (F := Ideal) H (ix3 b s l) = before H r l := by
  have hs := s.isLt
  unfold before val_main_v2
  by_cases h : s.val = 0
  · rw [if_pos (by omega)]
    refine (pad_apply_of_not_inside _ _ _ _ _ _ _ _ 1 fun hin => ?_).trans ?_
    · have h1 : 1 ≤ s.val := hin.1
      omega
    · rw [val_main_call0_v0_apply, val_main_c_apply]
      show (((0#32 : BitVec 32).toInt : ℝ) : EReal) = 0
      simp
  · rw [if_neg (by omega)]
    refine (pad_apply_of_inside _ _ _ _ _ _ _ _ (ix3 b (⟨s.val - 1, by omega⟩ : Fin 4095) l) fun a => ?_).trans ?_
    · match a with
      | ⟨0, _⟩ => show b.val = 0 + b.val * 1; omega
      | ⟨1, _⟩ => show s.val = 1 + (s.val - 1) * 1; omega
      | ⟨2, _⟩ => show l.val = 0 + l.val * 1; omega
    · rw [val_main_v1_apply]
      refine (congrArg (val_main_v0 (F := Ideal) H) (eq_ix3 _)).trans
        ((seq_at H b ⟨s.val - 1, by omega⟩ l ⟨r.val - 1, by omega⟩ (by show r.val - 1 = b.val * 4096 + (s.val - 1); omega)).trans ?_)
      exact rd_ix2 _ _ _

/-- The first mixture, with row 1 of the mixing weights. -/
theorem mixed1_at (b : Fin 4) (s : Fin 4096) (l : Fin 2048) (r : Fin 16384) (hr : r.val = b.val * 4096 + s.val) :
    val_main_v9 (F := Ideal) H A (ix3 b s l) = mixed H A 1 r l := by
  unfold mixed weight
  rw [← seq_at H b s l r hr, ← before_at H b s l r hr]
  pointwise [val_main_v9, val_main_v8, val_main_v7, val_main_v6, val_main_v5, val_main_v4, val_main_v3]

/-- The second, with row 4. -/
theorem mixed4_at (b : Fin 4) (s : Fin 4096) (l : Fin 2048) (r : Fin 16384) (hr : r.val = b.val * 4096 + s.val) :
    val_main_v15 (F := Ideal) H A (ix3 b s l) = mixed H A 4 r l := by
  unfold mixed weight
  rw [← seq_at H b s l r hr, ← before_at H b s l r hr]
  pointwise [val_main_v15, val_main_v14, val_main_v13, val_main_v12, val_main_v11, val_main_v10, val_main_v3]

/-- The third, with row 5. -/
theorem mixed5_at (b : Fin 4) (s : Fin 4096) (l : Fin 2048) (r : Fin 16384) (hr : r.val = b.val * 4096 + s.val) :
    val_main_v21 (F := Ideal) H A (ix3 b s l) = mixed H A 5 r l := by
  unfold mixed weight
  rw [← seq_at H b s l r hr, ← before_at H b s l r hr]
  pointwise [val_main_v21, val_main_v20, val_main_v19, val_main_v18, val_main_v17, val_main_v16, val_main_v3]

/-- The three products side by side, the first two with zeros behind them. -/
theorem columns_at (b : Fin 4) (s : Fin 4096) (n : Fin 512) (r : Fin 16384) (hr : r.val = b.val * 4096 + s.val) :
    val_main_v26 (F := Ideal) H A U V W (ix3 b s n)
      = ∑ k : Fin 2048, mixed H A (tile (n.val / 128)) r k * cols U V W k n := by
  have hn := n.isLt
  have z : ∀ i, val_main_v22 (F := Ideal) i = 0 := fun i => by pointwise [val_main_v22, val_main_cst]
  have e : val_main_v26 (F := Ideal) H A U V W (ix3 b s n)
      = if h : n.val < 96 then val_main_v23 (F := Ideal) H A U (ix3 b s ⟨n.val, h⟩)
        else if h : n.val - 96 < 32 then val_main_v22 (F := Ideal) (ix3 b s ⟨n.val - 96, h⟩)
        else if h : n.val - 96 - 32 < 96 then val_main_v24 (F := Ideal) H A V (ix3 b s ⟨n.val - 96 - 32, h⟩)
        else if h : n.val - 96 - 32 - 96 < 32 then val_main_v22 (F := Ideal) (ix3 b s ⟨n.val - 96 - 32 - 96, h⟩)
        else val_main_v25 (F := Ideal) H A W (ix3 b s ⟨n.val - 96 - 32 - 96 - 32, by omega⟩) := by
    pointwise [val_main_v26]
  rw [e]
  split_ifs with h0 h1 h2 h3
  · rw [show tile (n.val / 128) = 1 by unfold tile; split_ifs <;> omega, val_main_v23_apply]
    refine Finset.sum_congr rfl fun k _ => congrArg₂ (· * ·) ((congrArg _ (eq_ix3 _)).trans (mixed1_at H A b s k r hr)) ?_
    unfold cols padded
    rw [if_pos (by omega), dif_pos h0]
    exact congrArg U (eq_ix2 _)
  · refine (z _).trans (Finset.sum_eq_zero fun k _ => ?_).symm
    unfold cols padded
    rw [if_pos (by omega), dif_neg h0, mul_zero]
  · rw [show tile (n.val / 128) = 4 by unfold tile; split_ifs <;> omega, val_main_v24_apply]
    refine Finset.sum_congr rfl fun k _ => congrArg₂ (· * ·) ((congrArg _ (eq_ix3 _)).trans (mixed4_at H A b s k r hr)) ?_
    unfold cols padded
    rw [if_neg (by omega), if_pos (by omega), dif_pos (by omega)]
    exact congrArg V ((eq_ix2 _).trans (congrArg (ix2 k) (Fin.ext (Nat.sub_sub n.val 96 32))))
  · refine (z _).trans (Finset.sum_eq_zero fun k _ => ?_).symm
    unfold cols padded
    rw [if_neg (by omega), if_pos (by omega), dif_neg (by omega), mul_zero]
  · rw [show tile (n.val / 128) = 5 by unfold tile; split_ifs <;> omega, val_main_v25_apply]
    refine Finset.sum_congr rfl fun k _ => congrArg₂ (· * ·) ((congrArg _ (eq_ix3 _)).trans (mixed5_at H A b s k r hr)) ?_
    unfold cols
    rw [if_neg (by omega), if_neg (by omega)]
    refine congrArg W ((eq_ix2 _).trans (congrArg (ix2 k) (Fin.ext ?_)))
    show n.val - 96 - 32 - 96 - 32 = n.val - 256
    omega

/-- The reference's result. -/
theorem result_at : val_main_v27 (F := Ideal) H A U V W = MixTiles.G H A U V W := by
  funext j
  have h0 : (j 0).val < 16384 := (j 0).isLt
  have h1 : (j 1).val < 512 := (j 1).isLt
  rw [val_main_v27_apply]
  refine (congrArg (val_main_v26 (F := Ideal) H A U V W) (funext fun a => Fin.ext ?_)).trans
    (columns_at H A U V W ⟨(j 0).val / 4096, by omega⟩ ⟨(j 0).val % 4096, by omega⟩ (j 1) (j 0) (by
      show (j 0).val = (j 0).val / 4096 * 4096 + (j 0).val % 4096; omega))
  match a with
  | ⟨0, _⟩ => show ((j 0).val * 512 + (j 1).val) / 2097152 = (j 0).val / 4096; omega
  | ⟨1, _⟩ => show ((j 0).val * 512 + (j 1).val) / 512 % 4096 = (j 0).val % 4096; omega
  | ⟨2, _⟩ => show ((j 0).val * 512 + (j 1).val) % 512 = (j 1).val; omega

end Cert.Reference10Ideal.MixTiles

end
-- ==== Proof.Norm.lean ====
module

public import proofs.«01_k».proof.Proof.NormProduct
public import proofs.«01_k».proof.Proof.Gen.Kernel11Ideal.Value
public import Idealize.ShloMosaic.Lib.Pipeline.ValueKit
public import Idealize.ShloMosaic.Lib.StableHlo.ReadAt

/-! What the norm alone leaves in its result array: the normalised rows of its first argument, scaled by the second. -/

@[expose] public section

set_option maxRecDepth 16384

noncomputable section

namespace Cert.Kernel11Ideal.Norm

open Cert.Kernel11Ideal Cert.Kernel11Ideal.Gen Idealize.ShloMosaic Idealize.ShloMosaic.TcCoe Idealize.SL.Sem Cert.Band Cert.NormProduct

variable (m : (ℓ : Loc nD τ sig) → Buf (Elt Ideal) ℓ) (c : Dev nD)

/-- The rows to normalise, as the run finds them. -/
abbrev argX : Mat 16384 2048 := m ((c : Thread nD τ).loc main_arg0)
/-- Their scale. -/
abbrev argG : Row 2048 := m ((c : Thread nD τ).loc main_arg1)

/-- What the body stores: the normalised rows of the block. -/
theorem pay_at (x : Vec Ideal S512x2048 .f32) (g : Vec Ideal S1x2048 .f32) (j : S512x2048.Idx) :
    k0_pay1 (F := Ideal) x g j = normed (fun l => x (ix2 (j 0) l)) (fun l => g (ix2 0 l)) (j 1) := by
  pointwise [k0_pay1, normed]

/-- Which block each window stages at point `t`. -/
theorem idx : ∀ t : Fin cfg0.N,
    win0_0.index t = ![t.val, 0] ∧ win0_1.index t = ![0, 0] ∧ win0_2.index t = ![t.val, 0] :=
  (by decide +kernel : ∀ t : Fin grid0.N, _)

theorem blk0 (t : Fin cfg0.N) (y : Fin 512) (l : Fin 2048) (r : Fin 16384) (hr : r.val = t.val * 512 + y.val) :
    (iblk m c 0 t : Vec Ideal S512x2048 .f32) (ix2 y l) = argX m c (ix2 r l) := by
  show V m c main_arg0 (((cfg0.win 0).blk t).view.emb (ix2 y l)) = _
  rw [V_main_arg0]
  refine congrArg (argX m c) ?_
  blk_ext [idx t]

theorem blk1 (t : Fin cfg0.N) (l : Fin 2048) :
    (iblk m c 1 t : Vec Ideal S1x2048 .f32) (ix2 0 l) = argG m c (ix1 l) := by
  show V m c main_v0 (((cfg0.win 1).blk t).view.emb (ix2 0 l)) = _
  simp only [V]
  after_reads_simp
  pointwise
  refine congrArg (argG m c) ?_
  blk_ext [idx t]

/-- The result array, after the run. -/
theorem final : (dats m 0 c).arrAt 2 cfg0.N = rows (argX m c) (argG m c) := by
  refine (dats m 0 c).arrAt_eq_of_covers 2 _ (by decide +kernel) fun t _ y => ?_
  blk_simp
  rw [after0_2]
  frame_out
  have e0 : ((((cfg0.win 2).blk t).view.emb y) 0).val = t.val * 512 + (y 0).val := by
    blk_simp [idx t]
  have e1 : (((cfg0.win 2).blk t).view.emb y) 1 = y 1 := by
    refine Fin.ext ?_
    blk_simp [idx t]
  refine (pay_at _ _ y).trans ?_
  unfold rows
  rw [e1]
  exact congrArg₂ (fun a b => normed a b (y 1)) (funext fun l => blk0 m c t _ l _ e0) (funext fun l => blk1 m c t l)

end Cert.Kernel11Ideal.Norm

end
-- ==== Proof.NormReference.lean ====
module

public import proofs.«01_k».proof.Proof.NormProduct
public import proofs.«01_k».proof.Proof.Gen.Reference11Ideal.Read

/-! What the reference of the norm alone computes. -/

@[expose] public section

set_option maxRecDepth 16384

noncomputable section

namespace Cert.Reference11Ideal.Norm

open Cert.Reference11Ideal Cert.Reference11Ideal.Read Idealize.ShloMosaic Cert.Band Cert.NormProduct

/-- The reference's result, the normalised rows. -/
theorem result_at (X : Mat 16384 2048) (g : Row 2048) : val_main_v12 (F := Ideal) X g = rows X g := by
  funext j
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rows, normed]

end Cert.Reference11Ideal.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.KernelIdeal.Value
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel2.Frame
public import proofs.«01_k».proof.Proof.Gen.Kernel3.Frame
public import proofs.«01_k».proof.Proof.Gen.Kernel5.Frame
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Finite
public import proofs.«01_k».proof.Proof.Shared
public import proofs.«01_k».proof.Proof.SharedReference
public import proofs.«01_k».proof.Proof.Queries
public import proofs.«01_k».proof.Proof.QueriesReference
public import proofs.«01_k».proof.Proof.OutProjection
public import proofs.«01_k».proof.Proof.OutReference
public import proofs.«01_k».proof.Proof.Mix
public import proofs.«01_k».proof.Proof.MixReference
public import proofs.«01_k».proof.Proof.Gen.Kernel4.Frame
public import proofs.«01_k».proof.Proof.Gen.Kernel4.Skeleton
public import proofs.«01_k».proof.Proof.Gen.Kernel4Ideal.Frame
public import proofs.«01_k».proof.Proof.Gen.Kernel4Ideal.Skeleton
public import proofs.«01_k».proof.Proof.Gen.Reference4Ideal.Run
public import proofs.«01_k».proof.Proof.Gen.Reference4Ideal.Read
public import proofs.«01_k».proof.Proof.PeerFrameFloat
public import proofs.«01_k».proof.Proof.Peer
public import proofs.«01_k».proof.Proof.PeerReference
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Kernel7Ideal.Skeleton
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Kernel8Ideal.Skeleton
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Kernel9Ideal.Skeleton
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Skeleton
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Kernel11Ideal.Skeleton
public import proofs.«01_k».proof.Proof.Gen.Reference11Ideal.Run
public import proofs.«01_k».proof.Proof.Gen.Reference11Ideal.Read
public import proofs.«01_k».proof.Proof.Memory
public import proofs.«01_k».proof.Proof.MemoryReference
public import proofs.«01_k».proof.Proof.MemoryProjection
public import proofs.«01_k».proof.Proof.MemoryProjectionReference
public import proofs.«01_k».proof.Proof.Lora
public import proofs.«01_k».proof.Proof.LoraReference
public import proofs.«01_k».proof.Proof.MixTiles
public import proofs.«01_k».proof.Proof.MixTilesReference
public import proofs.«01_k».proof.Proof.Norm
public import proofs.«01_k».proof.Proof.NormReference
public import Idealize.ShloMosaic.Adequacy
public import Idealize.ShloMosaic.Init

@[expose] public section

noncomputable section

namespace Cert.Proof

open Idealize.ShloMosaic Idealize.SL.Sem Cert.Kernel

/-- The reference runs, leaves its arguments as they were, and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩) (Cert.ReferenceIdeal.Value.run m g)

/-- The kernel and the reference compute the same array over the extended reals. -/
theorem values [Cert.Pre_scores_are_finite.Facts] :
    Cert.algebraic_KernelIdeal_ReferenceIdeal_pre_scores_are_finite (hKernelIdeal := Cert.KernelIdeal.Gen.facts)
      (hReferenceIdeal := Cert.ReferenceIdeal.Gen.facts) := by
  pair_intro
  · run_from Cert.KernelIdeal.Value.run_blocks m g
  · run_from Cert.ReferenceIdeal.Value.run m' g'
    obtain ⟨h0, h1, h2⟩ := hagree c
    obtain ⟨p0, p1, p2⟩ := hpre c
    refine (Cert.ReferenceIdeal.Read.val_main_v78_eq m' c).trans ?_
    rw [h0, h1, h2, Cert.KernelIdeal.Band.final m c (Cert.Band.reals_of_pre _ _ _ p0 p1 p2)]
    exact Cert.ReferenceIdeal.Band.result_at _ _ _

/-- The projection of the shared keys and values and its reference compute the same array over the extended reals. -/
theorem values2 :
    Cert.algebraic_Kernel2Ideal_Reference2Ideal (hKernel2Ideal := Cert.Kernel2Ideal.Gen.facts)
      (hReference2Ideal := Cert.Reference2Ideal.Gen.facts) := by
  pair_intro
  · run_from Cert.Kernel2Ideal.Value.run_blocks m g
  · run_from Cert.Reference2Ideal.Value.run m' g'
    refine (Cert.Reference2Ideal.Read.val_main_v14_eq _ _ _).trans ?_
    rw [Cert.Kernel2Ideal.Shared.final m c]
    exact Cert.Reference2Ideal.Shared.result_at _ _ _

/-- The projection of the second layer's queries and its reference compute the same array over the extended reals. -/
theorem values3 :
    Cert.algebraic_Kernel3Ideal_Reference3Ideal (hKernel3Ideal := Cert.Kernel3Ideal.Gen.facts)
      (hReference3Ideal := Cert.Reference3Ideal.Gen.facts) := by
  pair_intro
  · run_from Cert.Kernel3Ideal.Value.run_blocks m g
  · run_from Cert.Reference3Ideal.Value.run m' g'
    refine (Cert.Reference3Ideal.Read.val_main_v14_eq _ _ _).trans ?_
    rw [Cert.Kernel3Ideal.Queries.final m c]
    exact Cert.Reference3Ideal.Queries.result_at _ _ _

/-- The expert queries' projection and its reference compute the same two arrays over the extended reals. -/
theorem values4 :
    Cert.algebraic_Kernel4Ideal_Reference4Ideal (hKernel4Ideal := Cert.Kernel4Ideal.Gen.facts)
      (hReference4Ideal := Cert.Reference4Ideal.Gen.facts) := by
  pair_intro
  · run_from Cert.Kernel4Ideal.Peer.run m g
  · run_from Cert.Reference4Ideal.Value.run m' g'
    · refine (Cert.Reference4Ideal.Read.val_main_v14_eq _ _ _).trans ?_
      exact Cert.Reference4Ideal.Peer.result_at _ _ _
    · refine (Cert.Reference4Ideal.Read.val_main_v12_eq _ _).trans ?_
      exact funext fun j => Cert.Reference4Ideal.Peer.rows_at _ _ j

/-- The output projection and its reference compute the same array over the extended reals. -/
theorem values5 :
    Cert.algebraic_Kernel5Ideal_Reference5Ideal (hKernel5Ideal := Cert.Kernel5Ideal.Gen.facts)
      (hReference5Ideal := Cert.Reference5Ideal.Gen.facts) := by
  pair_intro
  · run_from Cert.Kernel5Ideal.Value.run_blocks m g
  · run_from Cert.Reference5Ideal.Value.run m' g'
    obtain ⟨-, h1, h2, -⟩ := hagree c
    refine (Cert.Reference5Ideal.Read.val_main_v4_eq _ _ _ _).trans ?_
    rw [h1, h2, Cert.Kernel5Ideal.Out.final m c]
    exact Cert.Reference5Ideal.Out.result_at _ _ _ _

/-- The mixed projection of the first layer and its reference compute the same array over the extended reals. -/
theorem values6 :
    Cert.algebraic_Kernel6Ideal_Reference6Ideal (hKernel6Ideal := Cert.Kernel6Ideal.Gen.facts)
      (hReference6Ideal := Cert.Reference6Ideal.Gen.facts) := by
  pair_intro
  · run_from Cert.Kernel6Ideal.Mix.run m g
  · run_from Cert.Reference6Ideal.Value.run m' g'
    obtain ⟨-, -, h2⟩ := hagree c
    refine (Cert.Reference6Ideal.Read.val_main_v31_eq _ _ _).trans ?_
    rw [h2]
    exact Cert.Reference6Ideal.Mix.result_at _ _ _

/-- The memory attention and its reference compute the same array over the extended reals. -/
theorem values7 [Cert.Pre_memory_scores_are_finite.Facts] :
    Cert.algebraic_Kernel7Ideal_Reference7Ideal_pre_memory_scores_are_finite (hKernel7Ideal := Cert.Kernel7Ideal.Gen.facts)
      (hReference7Ideal := Cert.Reference7Ideal.Gen.facts) := by
  pair_intro
  · run_from Cert.Kernel7Ideal.Value.run_blocks m g
  · run_from Cert.Reference7Ideal.Value.run m' g'
    obtain ⟨h0, h1⟩ := hagree c
    obtain ⟨p0, p1⟩ := hpre c
    refine (Cert.Reference7Ideal.Read.val_main_v26_eq m' c).trans ?_
    rw [h0, h1, Cert.Kernel7Ideal.Memory.final m c (Cert.Memory.reals_of_pre _ _ p0 p1)]
    exact Cert.Reference7Ideal.Memory.result_at _ _

/-- The projection of the memory's keys and values and its reference compute the same array over the extended reals. -/
theorem values8 :
    Cert.algebraic_Kernel8Ideal_Reference8Ideal (hKernel8Ideal := Cert.Kernel8Ideal.Gen.facts)
      (hReference8Ideal := Cert.Reference8Ideal.Gen.facts) := by
  pair_intro
  · run_from Cert.Kernel8Ideal.Value.run_blocks m g
  · run_from Cert.Reference8Ideal.Value.run m' g'
    refine (Cert.Reference8Ideal.Read.val_main_v14_eq _ _ _).trans ?_
    rw [Cert.Kernel8Ideal.Project.final m c]
    exact Cert.Reference8Ideal.Project.result_at _ _ _

/-- The second stage of the low-rank projections and its reference compute the same three arrays over the extended reals. -/
theorem values9 :
    Cert.algebraic_Kernel9Ideal_Reference9Ideal (hKernel9Ideal := Cert.Kernel9Ideal.Gen.facts)
      (hReference9Ideal := Cert.Reference9Ideal.Gen.facts) := by
  pair_intro
  · run_from Cert.Kernel9Ideal.Value.run_blocks m g
  · run_from Cert.Reference9Ideal.Value.run m' g'
    · refine (Cert.Reference9Ideal.Read.val_main_v31_eq (F := Ideal) _ _ _).trans ?_
      rw [Cert.Kernel9Ideal.Lora.final6 m c]
      exact Cert.Reference9Ideal.Lora.decay_at _ _ _
    · refine (Cert.Reference9Ideal.Read.val_main_v22_eq (F := Ideal) _ _ _).trans ?_
      rw [Cert.Kernel9Ideal.Lora.final7 m c]
      exact Cert.Reference9Ideal.Lora.rate_at _ _ _
    · refine (Cert.Reference9Ideal.Read.val_main_v29_eq (F := Ideal) _ _).trans ?_
      rw [Cert.Kernel9Ideal.Lora.final8 m c]
      exact Cert.Reference9Ideal.Lora.gate_at _ _

/-- The first stage of the low-rank projections and its reference compute the same array over the extended reals. -/
theorem values10 :
    Cert.algebraic_Kernel10Ideal_Reference10Ideal (hKernel10Ideal := Cert.Kernel10Ideal.Gen.facts)
      (hReference10Ideal := Cert.Reference10Ideal.Gen.facts) := by
  pair_intro
  · run_from Cert.Kernel10Ideal.MixTiles.run m g
  · run_from Cert.Reference10Ideal.Value.run m' g'
    refine (Cert.Reference10Ideal.Read.val_main_v27_eq _ _ _ _ _).trans ?_
    obtain ⟨-, -, -, -, h4⟩ := hagree c
    rw [h4]
    exact Cert.Reference10Ideal.MixTiles.result_at _ _ _ _ _

/-- The norm alone and its reference compute the same array over the extended reals. -/
theorem values11 :
    Cert.algebraic_Kernel11Ideal_Reference11Ideal (hKernel11Ideal := Cert.Kernel11Ideal.Gen.facts)
      (hReference11Ideal := Cert.Reference11Ideal.Gen.facts) := by
  pair_intro
  · run_from Cert.Kernel11Ideal.Value.run_blocks m g
  · run_from Cert.Reference11Ideal.Value.run m' g'
    refine (Cert.Reference11Ideal.Read.val_main_v12_eq _ _).trans ?_
    rw [Cert.Kernel11Ideal.Norm.final m c]
    exact Cert.Reference11Ideal.Norm.result_at _ _

theorem claim : Cert.Claim := by
  refine ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Band.facts, Memory.facts, ?_⟩
  haveI := Cert.Band.facts
  haveI := Cert.Memory.facts
  exact ⟨fun m ρ _ => Cert.Kernel.Gen.frame m ρ, fun m ρ _ => Cert.KernelIdeal.Gen.frame m ρ,
    fun m ρ _ => Cert.KernelIdeal.Gen.frame m ρ, fun m ρ _ => frame_reference m ρ,
    fun m ρ _ => frame_reference m ρ,
    fun m ρ _ => Cert.Kernel2.Gen.frame m ρ, fun m ρ _ => Cert.Kernel2Ideal.Gen.frame m ρ,
    fun m ρ _ => (θ_run Cert.Reference2Ideal.defs _ _).mono
      (fun r h => ⟨fun c => (h c).2, sem_eq_zero_of_no_sems (by decide) r.2⟩) (Cert.Reference2Ideal.Value.run m ρ),
    fun m ρ _ => Cert.Kernel3.Gen.frame m ρ, fun m ρ _ => Cert.Kernel3Ideal.Gen.frame m ρ,
    fun m ρ _ => (θ_run Cert.Reference3Ideal.defs _ _).mono
      (fun r h => ⟨fun c => (h c).2, sem_eq_zero_of_no_sems (by decide) r.2⟩) (Cert.Reference3Ideal.Value.run m ρ),
    fun m ρ _ => Cert.Kernel4.Peer.frame m ρ, fun m ρ _ => Cert.Kernel4Ideal.Peer.frame m ρ,
    fun m ρ _ => (θ_run Cert.Reference4Ideal.defs _ _).mono
      (fun r h => ⟨fun c => (h c).2.2, sem_eq_zero_of_no_sems (by decide) r.2⟩) (Cert.Reference4Ideal.Value.run m ρ),
    fun m ρ _ => Cert.Kernel5.Gen.frame m ρ, fun m ρ _ => Cert.Kernel5Ideal.Gen.frame m ρ,
    fun m ρ _ => (θ_run Cert.Reference5Ideal.defs _ _).mono
      (fun r h => ⟨fun c => (h c).2, sem_eq_zero_of_no_sems (by decide) r.2⟩) (Cert.Reference5Ideal.Value.run m ρ),
    fun m ρ _ => Cert.Kernel6.Gen.frame m ρ (Cert.Kernel6.Mix.ok m) (Cert.Kernel6.Mix.hyps m),
    fun m ρ _ => Cert.Kernel6Ideal.Gen.frame m ρ (Cert.Kernel6Ideal.Mix.ok m) (Cert.Kernel6Ideal.Mix.hyps m),
    fun m ρ _ => (θ_run Cert.Reference6Ideal.defs _ _).mono
      (fun r h => ⟨fun c => (h c).2, sem_eq_zero_of_no_sems (by decide) r.2⟩) (Cert.Reference6Ideal.Value.run m ρ),
    fun m ρ _ => Cert.Kernel7.Gen.frame m ρ, fun m ρ _ => Cert.Kernel7Ideal.Gen.frame m ρ,
    fun m ρ _ => Cert.Kernel7Ideal.Gen.frame m ρ,
    fun m ρ _ => (θ_run Cert.Reference7Ideal.defs _ _).mono
      (fun r h => ⟨fun c => (h c).2, sem_eq_zero_of_no_sems (by decide) r.2⟩) (Cert.Reference7Ideal.Value.run m ρ),
    fun m ρ _ => (θ_run Cert.Reference7Ideal.defs _ _).mono
      (fun r h => ⟨fun c => (h c).2, sem_eq_zero_of_no_sems (by decide) r.2⟩) (Cert.Reference7Ideal.Value.run m ρ),
    fun m ρ _ => Cert.Kernel8.Gen.frame m ρ, fun m ρ _ => Cert.Kernel8Ideal.Gen.frame m ρ,
    fun m ρ _ => (θ_run Cert.Reference8Ideal.defs _ _).mono
      (fun r h => ⟨fun c => (h c).2, sem_eq_zero_of_no_sems (by decide) r.2⟩) (Cert.Reference8Ideal.Value.run m ρ),
    fun m ρ _ => Cert.Kernel9.Gen.frame m ρ, fun m ρ _ => Cert.Kernel9Ideal.Gen.frame m ρ,
    fun m ρ _ => (θ_run Cert.Reference9Ideal.defs _ _).mono
      (fun r h => ⟨fun c => (h c).2.2.2, sem_eq_zero_of_no_sems (by decide) r.2⟩) (Cert.Reference9Ideal.Value.run m ρ),
    fun m ρ _ => Cert.Kernel10.Gen.frame m ρ (Cert.Kernel10.MixTiles.ok m) (Cert.Kernel10.MixTiles.hyps m),
    fun m ρ _ => Cert.Kernel10Ideal.Gen.frame m ρ (Cert.Kernel10Ideal.MixTiles.ok m) (Cert.Kernel10Ideal.MixTiles.hyps m),
    fun m ρ _ => (θ_run Cert.Reference10Ideal.defs _ _).mono
      (fun r h => ⟨fun c => (h c).2, sem_eq_zero_of_no_sems (by decide) r.2⟩) (Cert.Reference10Ideal.Value.run m ρ),
    fun m ρ _ => Cert.Kernel11.Gen.frame m ρ, fun m ρ _ => Cert.Kernel11Ideal.Gen.frame m ρ,
    fun m ρ _ => (θ_run Cert.Reference11Ideal.defs _ _).mono
      (fun r h => ⟨fun c => (h c).2, sem_eq_zero_of_no_sems (by decide) r.2⟩) (Cert.Reference11Ideal.Value.run m ρ),
    trivial, values, trivial, values2, trivial, values3, trivial, values4, trivial, values5, trivial, values6,
    trivial, values7, trivial, values8, trivial, values9, trivial, values10, trivial, values11⟩

end Cert.Proof

end
